-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed_and_even [hPre_packed_and_even : Cert.Pre_packed_and_even.Facts] (m : (ℓ : Loc Cert.KernelIdeal.nD Cert.KernelIdeal.τ Cert.KernelIdeal.sig) → Buf (Elt Ideal) ℓ) : Prop :=
  ∀ c : Dev Cert.KernelIdeal.nD,
    (Cert.Pre_packed_and_even.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_packed_and_even.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed_and_even [hPre_packed_and_even : Cert.Pre_packed_and_even.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed_and_even.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_packed_and_even.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_below_infinity [hPre_below_infinity : Cert.Pre_below_infinity.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_below_infinity.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_below_infinity [hPre_below_infinity : Cert.Pre_below_infinity.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_below_infinity.fn (F := Ideal) (m ((c.tc : Thread Cert.Reference2Ideal.nD Cert.Reference2Ideal.τ).loc Cert.Reference2Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_packed_and_even [hKernelIdeal : Cert.KernelIdeal.Facts] [hPre_packed_and_even : Cert.Pre_packed_and_even.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed_and_even m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_packed_and_even [hReferenceIdeal : Cert.ReferenceIdeal.Facts] [hPre_packed_and_even : Cert.Pre_packed_and_even.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed_and_even m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_below_infinity [hKernel2Ideal : Cert.Kernel2Ideal.Facts] [hPre_below_infinity : Cert.Pre_below_infinity.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_below_infinity m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_below_infinity [hReference2Ideal : Cert.Reference2Ideal.Facts] [hPre_below_infinity : Cert.Pre_below_infinity.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_below_infinity m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def preserves_Kernel_KernelIdeal : Prop :=
  True

def algebraic_KernelIdeal_ReferenceIdeal_pre_packed_and_even [hKernelIdeal : Cert.KernelIdeal.Facts] [hReferenceIdeal : Cert.ReferenceIdeal.Facts] [hPre_packed_and_even : Cert.Pre_packed_and_even.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed_and_even m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_below_infinity [hKernel2Ideal : Cert.Kernel2Ideal.Facts] [hReference2Ideal : Cert.Reference2Ideal.Facts] [hPre_below_infinity : Cert.Pre_below_infinity.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_below_infinity m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_packed_and_even : Cert.Pre_packed_and_even.Facts) (hPre_below_infinity : Cert.Pre_below_infinity.Facts),
    quiescent_Kernel (hKernel := hKernel)
    ∧ quiescent_KernelIdeal (hKernelIdeal := hKernelIdeal)
    ∧ quiescent_KernelIdeal_pre_packed_and_even (hKernelIdeal := hKernelIdeal) (hPre_packed_and_even := hPre_packed_and_even)
    ∧ quiescent_ReferenceIdeal (hReferenceIdeal := hReferenceIdeal)
    ∧ quiescent_ReferenceIdeal_pre_packed_and_even (hReferenceIdeal := hReferenceIdeal) (hPre_packed_and_even := hPre_packed_and_even)
    ∧ quiescent_Kernel2 (hKernel2 := hKernel2)
    ∧ quiescent_Kernel2Ideal (hKernel2Ideal := hKernel2Ideal)
    ∧ quiescent_Kernel2Ideal_pre_below_infinity (hKernel2Ideal := hKernel2Ideal) (hPre_below_infinity := hPre_below_infinity)
    ∧ quiescent_Reference2Ideal (hReference2Ideal := hReference2Ideal)
    ∧ quiescent_Reference2Ideal_pre_below_infinity (hReference2Ideal := hReference2Ideal) (hPre_below_infinity := hPre_below_infinity)
    ∧ preserves_Kernel_KernelIdeal
    ∧ algebraic_KernelIdeal_ReferenceIdeal_pre_packed_and_even (hKernelIdeal := hKernelIdeal) (hReferenceIdeal := hReferenceIdeal) (hPre_packed_and_even := hPre_packed_and_even)
    ∧ preserves_Kernel2_Kernel2Ideal
    ∧ algebraic_Kernel2Ideal_Reference2Ideal_pre_below_infinity (hKernel2Ideal := hKernel2Ideal) (hReference2Ideal := hReference2Ideal) (hPre_below_infinity := hPre_below_infinity)
-- ==== Pre_below_infinity.lean ====
abbrev S100000x1000 : Shape := ⟨2, ![100000, 1000]⟩
abbrev S_ : Shape := ⟨0, ![]⟩

class Facts : Prop where
  bcast_S_S100000x1000 : S_.BroadcastsInDim S100000x1000 (![] : Fin 0 → Fin S100000x1000.rank)

variable [Facts]

def fn {F : FTy → Type} [FloatOps F] (main_arg0 : FVec F S100000x1000 .f32) : IVec S100000x1000 1 :=
  let main_cst : FVec F S_ .f32 := constant S_ .f32 0x7F800000#32
  let main_v0 : FVec F S100000x1000 .f32 := broadcastInDim S100000x1000 ![] bcast_S_S100000x1000 main_cst
  let main_v1 : IVec S100000x1000 1 := cmpf .olt main_arg0 main_v0
  main_v1
-- ==== Pre_packed_and_even.lean ====
abbrev S800x128 : Shape := ⟨2, ![800, 128]⟩
abbrev S100000 : Shape := ⟨1, ![100000]⟩
abbrev S102400 : Shape := ⟨1, ![102400]⟩
abbrev S_ : Shape := ⟨0, ![]⟩
abbrev S9 : Shape := ⟨1, ![9]⟩
abbrev S1x100000 : Shape := ⟨2, ![1, 100000]⟩
abbrev S9x1 : Shape := ⟨2, ![9, 1]⟩
abbrev S9x100000 : Shape := ⟨2, ![9, 100000]⟩

class Facts : Prop where
  shapeCasts_S800x128_S102400 : S800x128.ShapeCasts S102400
  bcast_S_S102400 : S_.BroadcastsInDim S102400 (![] : Fin 0 → Fin S102400.rank)
  slices_S102400_S100000_0 : S102400.Slices ![0] S100000
  bcast_S_S100000 : S_.BroadcastsInDim S100000 (![] : Fin 0 → Fin S100000.rank)
  slicesBy_S100000_S9_10000s10000 : S100000.SlicesBy (![10000] : Fin 1 → Nat) ![10000] S9
  slicesBy_S100000_S9_9999s10000 : S100000.SlicesBy (![9999] : Fin 1 → Nat) ![10000] S9
  bcast_S100000_S1x100000_1 : S100000.BroadcastsInDim S1x100000 (![1] : Fin 1 → Fin S1x100000.rank)
  bcast_S9_S9x1_0 : S9.BroadcastsInDim S9x1 (![0] : Fin 1 → Fin S9x1.rank)
  bcast_S1x100000_S9x100000_0_1 : S1x100000.BroadcastsInDim S9x100000 (![0, 1] : Fin 2 → Fin S9x100000.rank)
  bcast_S9x1_S9x100000_0_1 : S9x1.BroadcastsInDim S9x100000 (![0, 1] : Fin 2 → Fin S9x100000.rank)
  reducesTo_S9x100000_S9_d1 : S9x100000.ReducesTo [1] S9
  h_S_ : 0 < S_.numel

variable [Facts]

def comparator_i32_d0 : BitVec 32 → BitVec 32 → BitVec 1 :=
  fun l r =>
    let v1 := IntOp.cmpi .slt l r
    v1
def fn_where {F : FTy → Type} [FloatOps F] (arg0 : IVec S102400 1) (arg1 : IVec S102400 1) (arg2 : IVec S102400 1) : IVec S102400 1 :=
  let v0 : IVec S102400 1 := select arg0 arg1 arg2
  v0

def fn_sort {F : FTy → Type} [FloatOps F] (arg0 : IVec S100000 32) : IVec S100000 32 :=
  let v0 : IVec S100000 32 := (fun x => Host.sort S100000 0 comparator_i32_d0 x) arg0
  v0

def fn_part2 {F : FTy → Type} [FloatOps F] (main_v11 : IVec S102400 1) (main_v33 : IVec S9 1) (main_v39 : IVec S9 1) : IVec S102400 1 × IVec S9 1 :=
  let main_v40 : IVec S9 1 := ori main_v33 main_v39
  (main_v11, main_v40)

def fn_part1 {F : FTy → Type} [FloatOps F] (main_arg1 : IVec S100000 32) (main_v11 : IVec S102400 1) (main_v14 : IVec S100000 32) (main_v17 : IVec S100000 32) : IVec S102400 1 × IVec S9 1 :=
  let main_v18 : IVec S100000 1 := cmpi .eq main_v17 main_arg1
  let main_v19 : IVec S100000 32 := fn_sort (F := F) main_v14
  let main_v20 : IVec S9 32 := (Host.slice S9 ![10000] ![10000] · slicesBy_S100000_S9_10000s10000) main_v19
  let main_v21 : IVec S9 32 := (Host.slice S9 ![9999] ![10000] · slicesBy_S100000_S9_9999s10000) main_v19
  let main_v22 : IVec S1x100000 32 := broadcastInDim S1x100000 ![1] bcast_S100000_S1x100000_1 main_v14
  let main_v23 : IVec S9x1 32 := broadcastInDim S9x1 ![0] bcast_S9_S9x1_0 main_v20
  let main_v24 : IVec S9x100000 32 := broadcastInDim S9x100000 ![0, 1] bcast_S1x100000_S9x100000_0_1 main_v22
  let main_v25 : IVec S9x100000 32 := broadcastInDim S9x100000 ![0, 1] bcast_S9x1_S9x100000_0_1 main_v23
  let main_v26 : IVec S9x100000 1 := cmpi .eq main_v24 main_v25
  let main_v27 : IVec S9 1 := cmpi .slt main_v21 main_v20
  let main_v28 : IVec S9x100000 1 := noti main_v26
  let main_v29 : IVec S1x100000 1 := broadcastInDim S1x100000 ![1] bcast_S100000_S1x100000_1 main_v18
  let main_v30 : IVec S9x100000 1 := broadcastInDim S9x100000 ![0, 1] bcast_S1x100000_S9x100000_0_1 main_v29
  let main_v31 : IVec S9x100000 1 := ori main_v28 main_v30
  let main_c_5 : IVec S_ 1 := constantI S_ 1 1#1
  let main_v32 : IVec S9 1 := (fun x v => Host.reduce IntOp.andi x v reducesTo_S9x100000_S9_d1 h_S_) main_v31 main_c_5
  let main_v33 : IVec S9 1 := ori main_v27 main_v32
  let main_v34 : IVec S9x100000 1 := noti main_v26
  let main_v35 : IVec S1x100000 1 := broadcastInDim S1x100000 ![1] bcast_S100000_S1x100000_1 main_v18
  let main_v36 : IVec S1x100000 1 := noti main_v35
  let main_v37 : IVec S9x100000 1 := broadcastInDim S9x100000 ![0, 1] bcast_S1x100000_S9x100000_0_1 main_v36
  let main_v38 : IVec S9x100000 1 := ori main_v34 main_v37
  let main_c_6 : IVec S_ 1 := constantI S_ 1 1#1
  let main_v39 : IVec S9 1 := (fun x v => Host.reduce IntOp.andi x v reducesTo_S9x100000_S9_d1 h_S_) main_v38 main_c_6
  fn_part2 (F := F) main_v11 main_v33 main_v39

def fn {F : FTy → Type} [FloatOps F] (main_arg0 : IVec S800x128 32) (main_arg1 : IVec S100000 32) : IVec S102400 1 × IVec S9 1 :=
  let main_v0 : IVec S102400 32 := shapeCast S102400 main_arg0 shapeCasts_S800x128_S102400
  let main_v1 : IVec S102400 32 := iotaInDim S102400 32 0
  let main_c : IVec S_ 32 := constantI S_ 32 100000#32
  let main_v2 : IVec S102400 32 := broadcastInDim S102400 ![] bcast_S_S102400 main_c
  let main_v3 : IVec S102400 1 := cmpi .slt main_v1 main_v2
  let main_c_0 : IVec S_ 32 := constantI S_ 32 939524096#32
  let main_v4 : IVec S102400 32 := broadcastInDim S102400 ![] bcast_S_S102400 main_c_0
  let main_v5 : IVec S102400 1 := cmpi .sge main_v0 main_v4
  let main_c_1 : IVec S_ 32 := constantI S_ 32 1073741824#32
  let main_v6 : IVec S102400 32 := broadcastInDim S102400 ![] bcast_S_S102400 main_c_1
  let main_v7 : IVec S102400 1 := cmpi .slt main_v0 main_v6
  let main_v8 : IVec S102400 1 := andi main_v5 main_v7
  let main_c_2 : IVec S_ 32 := constantI S_ 32 2147482624#32
  let main_v9 : IVec S102400 32 := broadcastInDim S102400 ![] bcast_S_S102400 main_c_2
  let main_v10 : IVec S102400 1 := cmpi .eq main_v0 main_v9
  let main_v11 : IVec S102400 1 := fn_where (F := F) main_v3 main_v8 main_v10
  let main_v12 : IVec S100000 32 := (extractStridedSlice S100000 ![0] · slices_S102400_S100000_0) main_v0
  let main_c_3 : IVec S_ 32 := constantI S_ 32 4294966272#32
  let main_v13 : IVec S100000 32 := broadcastInDim S100000 ![] bcast_S_S100000 main_c_3
  let main_v14 : IVec S100000 32 := andi main_v12 main_v13
  let main_v15 : IVec S100000 32 := (extractStridedSlice S100000 ![0] · slices_S102400_S100000_0) main_v0
  let main_c_4 : IVec S_ 32 := constantI S_ 32 1023#32
  let main_v16 : IVec S100000 32 := broadcastInDim S100000 ![] bcast_S_S100000 main_c_4
  let main_v17 : IVec S100000 32 := andi main_v15 main_v16
  fn_part1 (F := F) main_arg1 main_v11 main_v14 main_v17
-- ==== Kernel.lean ====
abbrev S800x128 : Shape := ⟨2, ![800, 128]⟩
abbrev S100000 : Shape := ⟨1, ![100000]⟩
abbrev S_ : Shape := ⟨0, ![]⟩
abbrev S2400 : Shape := ⟨1, ![2400]⟩
abbrev S102400 : Shape := ⟨1, ![102400]⟩
abbrev S1x1 : Shape := ⟨2, ![1, 1]⟩
abbrev S1x800x128 : Shape := ⟨3, ![1, 800, 128]⟩
abbrev S1 : Shape := ⟨1, ![1]⟩
abbrev S1x1x1 : Shape := ⟨3, ![1, 1, 1]⟩

abbrev nBuf : Space → Nat
  | .hbm => 8
  | .vmem => 2
  | .smem => 1
  | _ => 0

abbrev bufTy : (tb : Table) → Fin (tcTables nBuf tb) → BufTy
  | .hbm, ⟨0, _⟩ => ⟨S800x128, .i32⟩
  | .hbm, ⟨1, _⟩ => ⟨S100000, .i32⟩
  | .hbm, ⟨2, _⟩ => ⟨S_, .i32⟩
  | .hbm, ⟨3, _⟩ => ⟨S2400, .i32⟩
  | .hbm, ⟨4, _⟩ => ⟨S102400, .i32⟩
  | .hbm, ⟨5, _⟩ => ⟨S800x128, .i32⟩
  | .hbm, ⟨6, _⟩ => ⟨S1x1, .f32⟩
  | .hbm, ⟨7, _⟩ => ⟨S_, .f32⟩
  | .local _ .vmem, ⟨0, _⟩ => ⟨S800x128, .i32⟩
  | .local _ .vmem, ⟨1, _⟩ => ⟨S800x128, .i32⟩
  | .local _ .smem, ⟨0, _⟩ => ⟨S1x1, .f32⟩
  | _, _ => ⟨S800x128, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c17_i32 : BitVec 32 := 17#32
  let v11 : BitVec 32 := Scalar.addi c0_i32 c17_i32
  let c1_i32 : BitVec 32 := 1#32
  ⟨c0_i32, v11, c1_i32⟩
abbrev stage0_0 : Fin 1 → Memref sig .tc .vmem S800x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S800x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S800x128 : Shape := ⟨2, ![800, 128]⟩
abbrev S100000 : Shape := ⟨1, ![100000]⟩
abbrev S102400 : Shape := ⟨1, ![102400]⟩
abbrev S_ : Shape := ⟨0, ![]⟩
abbrev S100000x1 : Shape := ⟨2, ![100000, 1]⟩
abbrev S10x10000 : Shape := ⟨2, ![10, 10000]⟩
abbrev S10 : Shape := ⟨1, ![10]⟩

abbrev nBuf : Space → Nat
  | .hbm => 61
  | .vmem => 0
  | .smem => 0
  | _ => 0

abbrev bufTy : (tb : Table) → Fin (tcTables nBuf tb) → BufTy
  | .hbm, ⟨0, _⟩ => ⟨S800x128, .i32⟩
  | .hbm, ⟨1, _⟩ => ⟨S100000, .i32⟩
  | .hbm, ⟨2, _⟩ => ⟨S102400, .i32⟩
  | .hbm, ⟨3, _⟩ => ⟨S100000, .i32⟩
  | .hbm, ⟨4, _⟩ => ⟨S_, .i32⟩
  | .hbm, ⟨5, _⟩ => ⟨S100000, .i32⟩
  | .hbm, ⟨6, _⟩ => ⟨S100000, .i32⟩
  | .hbm, ⟨7, _⟩ => ⟨S100000, .f32⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i1⟩
  | .hbm, ⟨12, _⟩ => ⟨S100000, .f32⟩
  | .hbm, ⟨13, _⟩ => ⟨S100000, .i32⟩
  | .hbm, ⟨14, _⟩ => ⟨S100000, .f32⟩
  | .hbm, ⟨15, _⟩ => ⟨S100000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000, .f32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000, .f32⟩
  | .hbm, ⟨34, _⟩ => ⟨S10x10000, .f32⟩
  | .hbm, ⟨35, _⟩ => ⟨S10x10000, .f32⟩
  | .hbm, ⟨36, _⟩ => ⟨S_, .f32⟩
  | .hbm, ⟨37, _⟩ => ⟨S10, .f32⟩
  | .hbm, ⟨38, _⟩ => ⟨S_, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S10, .f32⟩
  | .hbm, ⟨50, _⟩ => ⟨S10, .f32⟩
  | .hbm, ⟨51, _⟩ => ⟨S_, .f32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S10, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S800x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1_0 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel2.lean ====
abbrev S100000x1000 : Shape := ⟨2, ![100000, 1000]⟩
abbrev S1000 : Shape := ⟨1, ![1000]⟩
abbrev S_ : Shape := ⟨0, ![]⟩
abbrev S1x1000 : Shape := ⟨2, ![1, 1000]⟩
abbrev S800x128 : Shape := ⟨2, ![800, 128]⟩
abbrev S4096x1000 : Shape := ⟨2, ![4096, 1000]⟩
abbrev S32x128 : Shape := ⟨2, ![32, 128]⟩
abbrev S4096 : Shape := ⟨1, ![4096]⟩
abbrev S4096x1 : Shape := ⟨2, ![4096, 1]⟩

abbrev nBuf : Space → Nat
  | .hbm => 8
  | .vmem => 7
  | .smem => 0
  | _ => 0

abbrev bufTy : (tb : Table) → Fin (tcTables nBuf tb) → BufTy
  | .hbm, ⟨0, _⟩ => ⟨S100000x1000, .f32⟩
  | .hbm, ⟨1, _⟩ => ⟨S1000, .i32⟩
  | .hbm, ⟨2, _⟩ => ⟨S_, .i32⟩
  | .hbm, ⟨3, _⟩ => ⟨S1000, .i32⟩
  | .hbm, ⟨4, _⟩ => ⟨S1000, .i32⟩
  | .hbm, ⟨5, _⟩ => ⟨S1x1000, .i32⟩
  | .hbm, ⟨6, _⟩ => ⟨S800x128, .f32⟩
  | .hbm, ⟨7, _⟩ => ⟨S800x128, .i32⟩
  | .local _ .vmem, ⟨0, _⟩ => ⟨S4096x1000, .f32⟩
  | .local _ .vmem, ⟨1, _⟩ => ⟨S4096x1000, .f32⟩
  | .local _ .vmem, ⟨2, _⟩ => ⟨S1x1000, .i32⟩
  | .local _ .vmem, ⟨3, _⟩ => ⟨S32x128, .f32⟩
  | .local _ .vmem, ⟨4, _⟩ => ⟨S32x128, .f32⟩
  | .local _ .vmem, ⟨5, _⟩ => ⟨S32x128, .i32⟩
  | .local _ .vmem, ⟨6, _⟩ => ⟨S32x128, .i32⟩
  | _, _ => ⟨S100000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S100000x1000 : Shape := ⟨2, ![100000, 1000]⟩
abbrev S_ : Shape := ⟨0, ![]⟩
abbrev S100000 : Shape := ⟨1, ![100000]⟩
abbrev S100000x1 : Shape := ⟨2, ![100000, 1]⟩
abbrev S2400 : Shape := ⟨1, ![2400]⟩
abbrev S102400 : Shape := ⟨1, ![102400]⟩
abbrev S800x128 : Shape := ⟨2, ![800, 128]⟩

abbrev nBuf : Space → Nat
  | .hbm => 30
  | .vmem => 0
  | .smem => 0
  | _ => 0

abbrev bufTy : (tb : Table) → Fin (tcTables nBuf tb) → BufTy
  | .hbm, ⟨0, _⟩ => ⟨S100000x1000, .f32⟩
  | .hbm, ⟨1, _⟩ => ⟨S_, .f32⟩
  | .hbm, ⟨2, _⟩ => ⟨S100000, .f32⟩
  | .hbm, ⟨3, _⟩ => ⟨S_, .f32⟩
  | .hbm, ⟨4, _⟩ => ⟨S100000, .f32⟩
  | .hbm, ⟨5, _⟩ => ⟨S100000, .f32⟩
  | .hbm, ⟨6, _⟩ => ⟨S100000x1, .f32⟩
  | .hbm, ⟨7, _⟩ => ⟨S100000x1000, .f32⟩
  | .hbm, ⟨8, _⟩ => ⟨S100000x1000, .f32⟩
  | .hbm, ⟨9, _⟩ => ⟨S100000x1000, .f32⟩
  | .hbm, ⟨10, _⟩ => ⟨S_, .f32⟩
  | .hbm, ⟨11, _⟩ => ⟨S100000, .f32⟩
  | .hbm, ⟨12, _⟩ => ⟨S100000x1, .f32⟩
  | .hbm, ⟨13, _⟩ => ⟨S100000x1000, .f32⟩
  | .hbm, ⟨14, _⟩ => ⟨S100000x1000, .f32⟩
  | .hbm, ⟨15, _⟩ => ⟨S_, .f32⟩
  | .hbm, ⟨16, _⟩ => ⟨S100000, .f32⟩
  | .hbm, ⟨17, _⟩ => ⟨S100000x1000, .i32⟩
  | .hbm, ⟨18, _⟩ => ⟨S_, .f32⟩
  | .hbm, ⟨19, _⟩ => ⟨S_, .i32⟩
  | .hbm, ⟨20, _⟩ => ⟨S100000, .f32⟩
  | .hbm, ⟨21, _⟩ => ⟨S100000, .i32⟩
  | .hbm, ⟨22, _⟩ => ⟨S_, .f32⟩
  | .hbm, ⟨23, _⟩ => ⟨S2400, .f32⟩
  | .hbm, ⟨24, _⟩ => ⟨S102400, .f32⟩
  | .hbm, ⟨25, _⟩ => ⟨S_, .i32⟩
  | .hbm, ⟨26, _⟩ => ⟨S2400, .i32⟩
  | .hbm, ⟨27, _⟩ => ⟨S102400, .i32⟩
  | .hbm, ⟨28, _⟩ => ⟨S800x128, .f32⟩
  | .hbm, ⟨29, _⟩ => ⟨S800x128, .i32⟩
  | _, _ => ⟨S100000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Run2.lean ====
/- The run of the program Kernel2, the first call: the body runs from any contents of its buffers, and the frame. -/
module

public import proofs.«01_k».proof.Proof.Gen.Kernel2
public import proofs.«01_k».proof.Proof.Gen.Kernel2.Skeleton
public import proofs.«01_k».proof.Proof.Gen.Kernel2.Frame
public import Idealize.ShloMosaic.Adequacy
public import Idealize.ShloMosaic.Lib.Claim
public import Idealize.ShloMosaic.Lib.Pipeline.ValueKit.Geometry
public import Idealize.ShloMosaic.Lib.Pipeline.ValueKit.Basic
public import Idealize.ShloMosaic.Init

@[expose] public section

set_option maxRecDepth 16384

noncomputable section

namespace Cert.Kernel2.Rows

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The values a grid step computes -/

/-- Each row's greatest logit. -/
def rowMax (x : FVec F S4096x1000 .f32) : FVec F S4096x1 .f32 :=
  shapeCast S4096x1 (multiReduction .maximumf [1] S4096 x 0xFF800000#32 reduces_S4096x1000_S4096 (.inl rfl) rfl) shapeCasts_S4096_S4096x1

/-- Each row's sum of exponentials. -/
def rowSum (x : FVec F S4096x1000 .f32) : FVec F S4096x1 .f32 :=
  shapeCast S4096x1 (multiReduction .add [1] S4096 (exp x) 0x00000000#32 reduces_S4096x1000_S4096 (.inl rfl) rfl) shapeCasts_S4096_S4096x1

/-- Each row's confidence: the exponential of the greatest logit over the sum of the row's exponentials. -/
def confs (x : FVec F S4096x1000 .f32) : FVec F S4096x1 .f32 :=
  divf (exp (rowMax x)) (rowSum x)

/-- Each row's prediction: 1023 less the greatest of the words `y` at the classes whose logit is the row's greatest. -/
def preds (x : FVec F S4096x1000 .f32) (y : IVec S1x1000 32) : IVec S4096x1 32 :=
  subi (broadcast S4096x1 1023#32) (shapeCast S4096x1 (multiReductionI .maxsi [1] S4096
    (select (cmpf .oeq x (broadcastTo S4096x1000 (rowMax x) broadcasts_S4096x1_S4096x1000))
      (broadcastTo S4096x1000 (shapeCast S1x1000 (shapeCast S1x1000 y shapeCasts_S1x1000_S1x1000) shapeCasts_S1x1000_S1x1000)
        broadcasts_S1x1000_S4096x1000) (broadcast S4096x1000 0#32))
    2147483648#32 reduces_S4096x1000_S4096 rfl) shapeCasts_S4096_S4096x1)

/-- Which entries of the step's result blocks are samples: those whose number is below 100000. -/
def isSample (i : grid0.Coords) : IVec S32x128 1 :=
  cmpi .slt (addi (addi (muli (iota .tc S32x128 32 [0] iota_S32x128_d0_w32) (broadcast S32x128 128#32))
    (iota .tc S32x128 32 [1] iota_S32x128_d1_w32)) (broadcast S32x128 (Scalar.muli (BitVec.ofNat 32 (i 0).val) 4096#32)))
    (broadcast S32x128 100000#32)

/-- The step's confidences in rows of 128, 2 where there is no sample. -/
def confOut (i : grid0.Coords) (x : FVec F S4096x1000 .f32) : FVec F S32x128 .f32 :=
  select (isSample i) (shapeCast S32x128 (shapeCast S4096 (confs x) shapeCasts_S4096x1_S4096) shapeCasts_S4096_S32x128)
    (broadcast S32x128 (Scalar.ofBits .f32 0x40000000#32))

/-- The step's predictions in rows of 128, the padding word where there is no sample. -/
def predOut (i : grid0.Coords) (x : FVec F S4096x1000 .f32) (y : IVec S1x1000 32) : IVec S32x128 32 :=
  select (isSample i) (shapeCast S32x128 (shapeCast S4096 (preds x y) shapeCasts_S4096x1_S4096) shapeCasts_S4096_S32x128)
    (broadcast S32x128 2147482624#32)

/-! ## The body's triple -/

/-- The rectangles of the loads and of the stores: each the whole block. -/
abbrev rX : Rect S4096x1000 := Rect.unit (s := S4096x1000) ![0, 0] S4096x1000.size inb_S4096x1000_S4096x1000_0_0
abbrev rY : Rect S1x1000 := Rect.unit (s := S1x1000) ![0, 0] S1x1000.size inb_S1x1000_S1x1000_0_0
abbrev rO : Rect S32x128 := Rect.unit (s := S32x128) ![0, 0] S32x128.size inb_S32x128_S32x128_0_0

/-- What the body leaves in the two results' buffers. -/
def confBlk (i : grid0.Coords) (x : Vec F S4096x1000 .f32) : Vec F S32x128 .f32 :=
  View.canon [⟨rO, confOut i (View.ld x rX)⟩]
def predBlk (i : grid0.Coords) (x : Vec F S4096x1000 .f32) (y : Vec F S1x1000 .i32) : Vec F S32x128 .i32 :=
  View.canon [⟨rO, predOut i (View.ld x rX) (View.ld y rY)⟩]

/-- The one store covers a result's buffer. -/
theorem covers {e : EltTy} (p0 : Vec F S32x128 e) (y : S32x128.Idx) :
    ∃ pc ∈ ([⟨rO, p0⟩] : List (View.Piece (Elt F) S32x128 e)), y ∈ pc.1.set :=
  View.cover_of_tiled [⟨rO, p0⟩] S32x128.size (by rfl) y

set_option maxHeartbeats 4000000 in
/-- The body, on the two inputs' buffers and any result buffers, ends with the inputs as they were and the results at
    `confBlk` and `predBlk`. -/
theorem sound_kernel (c : Dev nD) (E : Set ℕ) (i : grid0.Coords) (arg1 : Memref sig .tc .vmem S4096x1000 .f32) (harg1 : arg1.IsWhole)
    (arg2 : Memref sig .tc .vmem S1x1000 .i32) (harg2 : arg2.IsWhole) (arg3 : Memref sig .tc .vmem S32x128 .f32) (harg3 : arg3.IsWhole)
    (arg4 : Memref sig .tc .vmem S32x128 .i32) (harg4 : arg4.IsWhole)
    (x0 : Vec F S4096x1000 .f32) (x1 : Vec F S1x1000 .i32) (K : PUnit → sProp (MT nD τ sig Unit (Elt F) ℕ (UR sig nD τ) ℕ)) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (confBlk i x0) ∗ owns (c : Thread nD τ) arg4 fullShare (predBlk i x0 x1)) -∗ K ⟨⟩))
      ⊢ wp frame (wpE (defs₀ (F := F)) Variants.none c none) E (cc0__stage1_body i arg1 harg1 arg2 harg2 arg3 harg3 arg4 harg4) K := by
  simp only [cc0__stage1_body_eq_skeleton]; unfold cc0__stage1_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (covers _)
  iexists _; isplitr
  swap; · iexact H3
  ipureintro
  exact View.read_writes_eq_canon _ _ _ (covers _)

variable (m : (ℓ : Loc nD τ sig) → Buf (Elt F) ℓ) (ρ : Dev nD → PrngReg)

local notation "𝕄" => MT nD τ sig Unit (Elt F) ℕ (UR sig nD τ) ℕ

theorem defs₀_row (t : Fin cfg0.N) :
    defs₀ (F := F) .tc cfg0.body (cfg0.bodyArgs t (cfg0.slots t)) = bodyAt0 t := by
  unfold defs₀; rw [Defs.onTc_tc]

/-! ## The launch -/

/-- The one pipeline's data on core `c`: the arrays as the region finds them; nothing is said of what the body leaves. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

/-- Whatever the four buffers hold, the body runs and leaves something in each. -/
theorem body_obligation (c : Dev nD) :
    BodyObligationLoose (dats (F := F) m 0 c) (defs₀ (F := F)) Variants.none () Set.univ (fun _ => true) := fun t => by
  rw [bigSep_W0, defs₀_row]
  simp only
  rw [show (dats m 0 c).Φ t.succ = (dats m 0 c).Φ t.castSucc from rfl,
    show (dats m 0 c).owesAt () t.succ = (dats m 0 c).owesAt () t.castSucc from rfl]
  unfold bodyAt0
  iintro ⟨HΦ, Ho, ⟨%d0, H0⟩, ⟨%d1, H1⟩, ⟨%d2, H2⟩, ⟨%d3, H3⟩⟩
  iapply (sound_kernel c Set.univ _ _ _ _ _ _ _ _ _ d0 d1 _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

set_option backward.isDefEq.respectTransparency.types false in
set_option maxHeartbeats 800000 in
/-- Every run ends with the argument arrays as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  Pipeline.θ_run_frame_forget cfgs (dats m) (0 : Fin 1) launch0 defs₀ Variants.none (fun _ => true) m ρ main
    (hbody := body_obligation m) (hshare := fun c => (dats m 0 c).share_full fun _ => rfl)
    (howed := fun _ _ => rfl) (V := V m) (hmain := hmain m Variants.none) (hA := A_eq m) (hΦ := fun _ _ => rfl)
    (Q' := _) (hQ' := fun r h => ⟨fun c => (h.1.arr_in c 0 rfl).trans ((A_eq m c 0).trans (V_main_arg0 m c)), h.2⟩)

end Cert.Kernel2.Rows

end
-- ==== Proof.Run2Ideal.lean ====
/- The program Kernel2Ideal, the first call: what a grid step leaves in its two result blocks (`confOut`, the confidences, and
   `predOut`, the predictions), as terms over its two argument blocks. -/
module

public import proofs.«01_k».proof.Proof.Gen.Kernel2Ideal
public import proofs.«01_k».proof.Proof.Gen.Kernel2Ideal.Skeleton
public import proofs.«01_k».proof.Proof.Gen.Kernel2Ideal.Frame
public import Idealize.ShloMosaic.Adequacy
public import Idealize.ShloMosaic.Lib.Claim
public import Idealize.ShloMosaic.Lib.Pipeline.ValueKit.Geometry
public import Idealize.ShloMosaic.Lib.Pipeline.ValueKit.Basic
public import Idealize.ShloMosaic.Init

@[expose] public section

set_option maxRecDepth 16384

noncomputable section

namespace Cert.Kernel2Ideal.Rows

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The values a grid step computes -/

/-- Each row's greatest logit. -/
def rowMax (x : FVec F S4096x1000 .f32) : FVec F S4096x1 .f32 :=
  shapeCast S4096x1 (multiReduction .maximumf [1] S4096 x 0xFF800000#32 reduces_S4096x1000_S4096 (.inl rfl) rfl) shapeCasts_S4096_S4096x1

/-- Each row's sum of exponentials. -/
def rowSum (x : FVec F S4096x1000 .f32) : FVec F S4096x1 .f32 :=
  shapeCast S4096x1 (multiReduction .add [1] S4096 (exp x) 0x00000000#32 reduces_S4096x1000_S4096 (.inl rfl) rfl) shapeCasts_S4096_S4096x1

/-- Each row's confidence: the exponential of the greatest logit over the sum of the row's exponentials. -/
def confs (x : FVec F S4096x1000 .f32) : FVec F S4096x1 .f32 :=
  divf (exp (rowMax x)) (rowSum x)

/-- Each row's prediction: 1023 less the greatest of the words `y` at the classes whose logit is the row's greatest. -/
def preds (x : FVec F S4096x1000 .f32) (y : IVec S1x1000 32) : IVec S4096x1 32 :=
  subi (broadcast S4096x1 1023#32) (shapeCast S4096x1 (multiReductionI .maxsi [1] S4096
    (select (cmpf .oeq x (broadcastTo S4096x1000 (rowMax x) broadcasts_S4096x1_S4096x1000))
      (broadcastTo S4096x1000 (shapeCast S1x1000 (shapeCast S1x1000 y shapeCasts_S1x1000_S1x1000) shapeCasts_S1x1000_S1x1000)
        broadcasts_S1x1000_S4096x1000) (broadcast S4096x1000 0#32))
    2147483648#32 reduces_S4096x1000_S4096 rfl) shapeCasts_S4096_S4096x1)

/-- Which entries of the step's result blocks are samples: those whose number is below 100000. -/
def isSample (i : grid0.Coords) : IVec S32x128 1 :=
  cmpi .slt (addi (addi (muli (iota .tc S32x128 32 [0] iota_S32x128_d0_w32) (broadcast S32x128 128#32))
    (iota .tc S32x128 32 [1] iota_S32x128_d1_w32)) (broadcast S32x128 (Scalar.muli (BitVec.ofNat 32 (i 0).val) 4096#32)))
    (broadcast S32x128 100000#32)

/-- The step's confidences in rows of 128, 2 where there is no sample. -/
def confOut (i : grid0.Coords) (x : FVec F S4096x1000 .f32) : FVec F S32x128 .f32 :=
  select (isSample i) (shapeCast S32x128 (shapeCast S4096 (confs x) shapeCasts_S4096x1_S4096) shapeCasts_S4096_S32x128)
    (broadcast S32x128 (Scalar.ofBits .f32 0x40000000#32))

/-- The step's predictions in rows of 128, the padding word where there is no sample. -/
def predOut (i : grid0.Coords) (x : FVec F S4096x1000 .f32) (y : IVec S1x1000 32) : IVec S32x128 32 :=
  select (isSample i) (shapeCast S32x128 (shapeCast S4096 (preds x y) shapeCasts_S4096x1_S4096) shapeCasts_S4096_S32x128)
    (broadcast S32x128 2147482624#32)

/-! ## The body's triple -/

/-- The rectangles of the loads and of the stores: each the whole block. -/
abbrev rX : Rect S4096x1000 := Rect.unit (s := S4096x1000) ![0, 0] S4096x1000.size inb_S4096x1000_S4096x1000_0_0
abbrev rY : Rect S1x1000 := Rect.unit (s := S1x1000) ![0, 0] S1x1000.size inb_S1x1000_S1x1000_0_0
abbrev rO : Rect S32x128 := Rect.unit (s := S32x128) ![0, 0] S32x128.size inb_S32x128_S32x128_0_0

/-- What the body leaves in the two results' buffers. -/
def confBlk (i : grid0.Coords) (x : Vec F S4096x1000 .f32) : Vec F S32x128 .f32 :=
  View.canon [⟨rO, confOut i (View.ld x rX)⟩]
def predBlk (i : grid0.Coords) (x : Vec F S4096x1000 .f32) (y : Vec F S1x1000 .i32) : Vec F S32x128 .i32 :=
  View.canon [⟨rO, predOut i (View.ld x rX) (View.ld y rY)⟩]

/-- The one store covers a result's buffer. -/
theorem covers {e : EltTy} (p0 : Vec F S32x128 e) (y : S32x128.Idx) :
    ∃ pc ∈ ([⟨rO, p0⟩] : List (View.Piece (Elt F) S32x128 e)), y ∈ pc.1.set :=
  View.cover_of_tiled [⟨rO, p0⟩] S32x128.size (by rfl) y

set_option maxHeartbeats 4000000 in
/-- The body, on the two inputs' buffers and any result buffers, ends with the inputs as they were and the results at
    `confBlk` and `predBlk`. -/
theorem sound_kernel (c : Dev nD) (E : Set ℕ) (i : grid0.Coords) (arg1 : Memref sig .tc .vmem S4096x1000 .f32) (harg1 : arg1.IsWhole)
    (arg2 : Memref sig .tc .vmem S1x1000 .i32) (harg2 : arg2.IsWhole) (arg3 : Memref sig .tc .vmem S32x128 .f32) (harg3 : arg3.IsWhole)
    (arg4 : Memref sig .tc .vmem S32x128 .i32) (harg4 : arg4.IsWhole)
    (x0 : Vec F S4096x1000 .f32) (x1 : Vec F S1x1000 .i32) (K : PUnit → sProp (MT nD τ sig Unit (Elt F) ℕ (UR sig nD τ) ℕ)) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (confBlk i x0) ∗ owns (c : Thread nD τ) arg4 fullShare (predBlk i x0 x1)) -∗ K ⟨⟩))
      ⊢ wp frame (wpE (defs₀ (F := F)) Variants.none c none) E (cc0__stage1_body i arg1 harg1 arg2 harg2 arg3 harg3 arg4 harg4) K := by
  simp only [cc0__stage1_body_eq_skeleton]; unfold cc0__stage1_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (covers _)
  iexists _; isplitr
  swap; · iexact H3
  ipureintro
  exact View.read_writes_eq_canon _ _ _ (covers _)

variable (m : (ℓ : Loc nD τ sig) → Buf (Elt F) ℓ) (ρ : Dev nD → PrngReg)

local notation "𝕄" => MT nD τ sig Unit (Elt F) ℕ (UR sig nD τ) ℕ

theorem defs₀_row (t : Fin cfg0.N) :
    defs₀ (F := F) .tc cfg0.body (cfg0.bodyArgs t (cfg0.slots t)) = bodyAt0 t := by
  unfold defs₀; rw [Defs.onTc_tc]

end Cert.Kernel2Ideal.Rows

end
-- ==== Proof.Rows.lean ====
/- The first call at the ideal values: every entry of its two results is a function of one row of the logits. -/
module

public import proofs.«01_k».proof.Proof.Run2Ideal
public import Idealize.ShloMosaic.Lib.Pointwise
public import Idealize.ShloMosaic.PureOps.Reduce

@[expose] public section

set_option maxRecDepth 16384

noncomputable section

namespace Cert.Kernel2Ideal.Rows

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## One row -/

/-- A row's greatest logit, -/
def top (r : Fin 1000 → EReal) : EReal := Finset.univ.fold max (Ideal.ofBits .f32 0xFF800000#32) r

/-- its confidence, -/
def rowConf (r : Fin 1000 → EReal) : EReal := Ideal.div (Ideal.exp (top r)) (∑ k, Ideal.exp (r k))

/-- and its prediction, from the words `y` of the classes. -/
def rowPred (r : Fin 1000 → EReal) (y : Fin 1000 → BitVec 32) : BitVec 32 :=
  IntOp.subi 1023#32 (Finset.univ.fold IntOp.maxsi 2147483648#32 fun k => if r k = top r then y k else 0#32)

/-! ## A step's block, row by row -/

/-- A row's sum is the sum of the row's entries. -/
theorem sum_row {N M : ℕ} (v : FVec Ideal ⟨2, ![N, M]⟩ .f32) (acc : BitVec 32) (h : (⟨2, ![N, M]⟩ : Shape).Reduces [1] ⟨1, ![N]⟩)
    (hφ) (hacc) (a : Fin N) (f : Fin M → EReal) (hf : ∀ k, v (ix2 a k) = f k) :
    multiReduction .add [1] ⟨1, ![N]⟩ v acc h hφ hacc (ix1 a) = ∑ k : Fin M, f k := by
  rw [← funext hf]
  pointwise

/-- A vector kept as a column, at a row. -/
theorem column (w : FVec Ideal S4096 .f32) (a : Fin 4096) : shapeCast S4096x1 w shapeCasts_S4096_S4096x1 (ix2 a (0 : Fin 1)) = w (ix1 a) := by
  pointwise

theorem rowSum_apply (x : FVec Ideal S4096x1000 .f32) (a : Fin 4096) :
    rowSum x (ix2 a (0 : Fin 1)) = ∑ k : Fin 1000, Ideal.exp (x (ix2 a k)) :=
  (column _ a).trans (sum_row (exp x) 0x00000000#32 reduces_S4096x1000_S4096 (.inl rfl) rfl a
    (fun k => Ideal.exp (x (ix2 a k))) fun _ => rfl)

theorem rowMax_apply (x : FVec Ideal S4096x1000 .f32) (a : Fin 4096) :
    rowMax x (ix2 a (0 : Fin 1)) = top fun k => x (ix2 a k) := by
  unfold rowMax top
  pointwise

theorem div_exp {s : Shape} (p q : FVec Ideal s .f32) (j : s.Idx) : divf (exp p) q j = Ideal.div (Ideal.exp (p j)) (q j) := rfl

theorem confs_apply (x : FVec Ideal S4096x1000 .f32) (a : Fin 4096) :
    confs x (ix2 a (0 : Fin 1)) = rowConf fun k => x (ix2 a k) :=
  (div_exp (rowMax x) (rowSum x) (ix2 a (0 : Fin 1))).trans (by rw [rowMax_apply, rowSum_apply]; unfold rowConf; exact Eq.refl _)

theorem preds_apply (x : FVec Ideal S4096x1000 .f32) (y : IVec S1x1000 32) (a : Fin 4096) :
    preds x y (ix2 a (0 : Fin 1)) = rowPred (fun k => x (ix2 a k)) fun k => y (ix2 (0 : Fin 1) k) := by
  unfold rowPred
  rw [← rowMax_apply]
  unfold preds
  pointwise

/-- An index of a block is its two coordinates. -/
theorem eq_ix2 {n m : ℕ} (j : (⟨2, ![n, m]⟩ : Shape).Idx) : j = ix2 (j 0) (j 1) := funext (Fin.forall_fin_two.2 ⟨rfl, rfl⟩)

/-- A step's row of entry `(a, b)`. -/
def rowOf (a : Fin 32) (b : Fin 128) : Fin 4096 := ⟨a.val * 128 + b.val, by omega⟩

/-- Entry `(a, b)` of step `t`'s block is a sample's if its number is below the number of samples. -/
theorem isSample_iff (t : Fin grid0.N) (ht : (grid0.coords t 0).val = t.val) (hN : t.val < 25) (a : Fin 32) (b : Fin 128) :
    isSample (grid0.coords t) (ix2 a b) = 1#1 ↔ 4096 * t.val + (rowOf a b).val < 100000 := by
  have e : isSample (grid0.coords t) (ix2 a b) = IntOp.cmpi .slt (BitVec.ofNat 32 (4096 * t.val + (rowOf a b).val)) 100000#32 := by
    unfold isSample
    pointwise
    rw [ht]
    congr 1
    unfold rowOf IntOp.addi IntOp.muli Scalar.muli IntOp.muli
    apply BitVec.eq_of_toNat_eq
    simp only [BitVec.toNat_add, BitVec.toNat_mul, BitVec.toNat_ofNat]
    omega
  have hlt : 4096 * t.val + (rowOf a b).val < 102400 := by have := (rowOf a b).isLt; omega
  rw [e]
  generalize 4096 * t.val + (rowOf a b).val = n at hlt ⊢
  unfold IntOp.cmpi
  simp only [BitVec.slt, BitVec.toInt_eq_toNat_cond, BitVec.toNat_ofNat]
  rw [Nat.mod_eq_of_lt (by omega), if_pos (by omega), if_pos (by omega)]
  by_cases h : n < 100000
  · simp [h]
  · simp [h]

theorem confOut_apply (i : grid0.Coords) (x : FVec Ideal S4096x1000 .f32) (a : Fin 32) (b : Fin 128) :
    confOut i x (ix2 a b) = if isSample i (ix2 a b) = 1#1 then rowConf fun k => x (ix2 (rowOf a b) k) else Ideal.ofBits .f32 0x40000000#32 := by
  have e : confOut i x (ix2 a b) = Scalar.select (isSample i (ix2 a b)) (confs x (ix2 (rowOf a b) (0 : Fin 1))) (Ideal.ofBits .f32 0x40000000#32) := by
    unfold confOut rowOf
    pointwise
  rw [e, confs_apply]
  rfl

theorem predOut_apply (i : grid0.Coords) (x : FVec Ideal S4096x1000 .f32) (y : IVec S1x1000 32) (a : Fin 32) (b : Fin 128) :
    predOut i x y (ix2 a b) = if isSample i (ix2 a b) = 1#1 then rowPred (fun k => x (ix2 (rowOf a b) k)) fun k => y (ix2 (0 : Fin 1) k)
      else 2147482624#32 := by
  have e : predOut i x y (ix2 a b) = Scalar.select (isSample i (ix2 a b)) (preds x y (ix2 (rowOf a b) (0 : Fin 1))) 2147482624#32 := by
    unfold predOut rowOf
    pointwise
  rw [e, preds_apply]
  rfl

/-! ## The blocks the steps read -/

theorem coords_val : ∀ t : Fin grid0.N, (grid0.coords t 0).val = t.val := by decide +kernel

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

theorem xsize0 : ∀ t : Fin grid0.N, win0_0.xsize (grid0.coords t) 0 = min 4096 (100000 - 4096 * t.val) := by decide +kernel
theorem xsize1 : ∀ t : Fin grid0.N, win0_0.xsize (grid0.coords t) 1 = 1000 := by decide +kernel

theorem lt_25 (t : Fin cfg0.N) : t.val < 25 := lt_of_lt_of_eq t.isLt N_0

variable (m : (ℓ : Loc nD τ sig) → Buf (Elt Ideal) ℓ) (ρ : Dev nD → PrngReg)

/-- The logits on core `c`. -/
abbrev logits (c : Dev nD) : FVec Ideal S100000x1000 .f32 := m ((c : Thread nD τ).loc main_arg0)

/-- A row of the logits. -/
def row (A : FVec Ideal S100000x1000 .f32) (n : Fin 100000) : Fin 1000 → EReal := fun k => A (ix2 n k)

/-- Whatever a step's first buffer holds past the logits' end, each row inside is a row of the logits. -/
theorem fill_apply (c : Dev nD) (t : Fin cfg0.N) (d : S4096x1000.Idx → Elt Ideal .f32) (a : Fin 4096) (k : Fin 1000)
    (h : 4096 * t.val + a.val < 100000) :
    win0_0.fill (grid0.coords t) d (iblk m c 0 t) (ix2 a k) = row (logits m c) ⟨4096 * t.val + a.val, h⟩ k := by
  have hm : win0_0.moved (grid0.coords t) (ix2 a k) = true := (win0_0.moved_iff _ _).2 fun e => by
    match e with
    | 0 => rw [xsize0 t]; show a.val < _; omega
    | 1 => rw [xsize1 t]; exact k.isLt
  unfold Window.fill row logits
  rw [dif_pos hm, ← V_main_arg0 m c]
  unfold iblk
  blk_simp [idx0]
  refine congrArg (V m c main_arg0) (funext fun e => Fin.ext ?_)
  blk_simp [idx0]
  revert e
  refine Fin.forall_fin_two.2 ⟨?_, ?_⟩
  · show t.val * 4096 + a.val = 4096 * t.val + a.val; omega
  · show 0 * 1000 + k.val = k.val; omega

/-- The second input's word of class `k` is `1023 - k`. -/
theorem V_classes (c : Dev nD) (k : Fin 1000) : V m c main_v3 (ix2 (0 : Fin 1) k) = IntOp.subi 1023#32 (BitVec.ofNat 32 k.val) := by
  unfold V
  simp only [hostOps0, List.flatten_cons, List.flatten_nil, List.append_nil]
  after_results_simp
  pointwise

theorem iblk1 (c : Dev nD) (t : Fin cfg0.N) (k : Fin 1000) :
    iblk m c 1 t (ix2 (0 : Fin 1) k) = IntOp.subi 1023#32 (BitVec.ofNat 32 k.val) := by
  rw [← V_classes m c k]
  unfold iblk
  blk_simp [idx1]
  congr 1; funext e; apply Fin.ext; blk_simp [idx1]
  match e with
  | 0 => rfl
  | 1 => show 0 * 1000 + k.val = k.val; omega

/-! ## The results, entry by entry -/

/-- The confidence at entry `(a, b)` of the results: its sample's, or 2 past the samples. -/
def confAll (A : FVec Ideal S100000x1000 .f32) (a : Fin 800) (b : Fin 128) : EReal :=
  if h : a.val * 128 + b.val < 100000 then rowConf (row A ⟨a.val * 128 + b.val, h⟩) else Ideal.ofBits .f32 0x40000000#32

/-- The prediction at entry `(a, b)` of the results: its sample's, or the padding word past the samples. -/
def predAll (A : FVec Ideal S100000x1000 .f32) (a : Fin 800) (b : Fin 128) : BitVec 32 :=
  if h : a.val * 128 + b.val < 100000 then
    rowPred (row A ⟨a.val * 128 + b.val, h⟩) fun k => IntOp.subi 1023#32 (BitVec.ofNat 32 k.val)
  else 2147482624#32

/-- The results' row that holds row `a` of step `t`'s block. -/
def rowAt (t : Fin cfg0.N) (a : Fin 32) : Fin 800 := ⟨t.val * 32 + a.val, by have := lt_25 t; omega⟩

/-- What step `t` writes of the two results. -/
def confStep (c : Dev nD) (t : Fin cfg0.N) : S32x128.Idx → Elt Ideal .f32 := fun j => confAll (logits m c) (rowAt t (j 0)) (j 1)
def predStep (c : Dev nD) (t : Fin cfg0.N) : S32x128.Idx → Elt Ideal .i32 := fun j => predAll (logits m c) (rowAt t (j 0)) (j 1)

theorem row_eq (t : Fin cfg0.N) (a : Fin 32) (b : Fin 128) : (rowAt t a).val * 128 + b.val = 4096 * t.val + (rowOf a b).val := by
  show (t.val * 32 + a.val) * 128 + b.val = 4096 * t.val + (a.val * 128 + b.val)
  omega

/-- The body's confidences do not depend on what the first buffer holds past the logits' end. -/
theorem confBlk_eq (c : Dev nD) (t : Fin cfg0.N) (d : S4096x1000.Idx → Elt Ideal .f32) :
    confBlk (F := Ideal) (grid0.coords t) (win0_0.fill (grid0.coords t) d (iblk m c 0 t)) = confStep m c t := by
  unfold confBlk
  rw [View.canon_cons_unit_lit _ _ _ (by decide), View.ld_unit_lit _ _ (by decide)]
  funext j
  obtain ⟨a, b, rfl⟩ : ∃ a b, j = ix2 a b := ⟨_, _, eq_ix2 j⟩
  refine (confOut_apply _ _ a b).trans ?_
  show _ = confAll (logits m c) (rowAt t a) b
  have e := row_eq t a b
  by_cases h : 4096 * t.val + (rowOf a b).val < 100000
  · rw [if_pos ((isSample_iff t (coords_val t) (lt_25 t) a b).2 h)]
    unfold confAll
    rw [dif_pos (by omega)]
    congr 1
    funext k
    rw [fill_apply m c t d _ k h]
    congr 1
    exact Fin.ext e.symm
  · rw [if_neg fun h' => h ((isSample_iff t (coords_val t) (lt_25 t) a b).1 h')]
    unfold confAll
    rw [dif_neg (by omega)]

/-- Nor do its predictions. -/
theorem predBlk_eq (c : Dev nD) (t : Fin cfg0.N) (d : S4096x1000.Idx → Elt Ideal .f32) :
    predBlk (F := Ideal) (grid0.coords t) (win0_0.fill (grid0.coords t) d (iblk m c 0 t)) (iblk m c 1 t) = predStep m c t := by
  unfold predBlk
  rw [View.canon_cons_unit_lit _ _ _ (by decide), View.ld_unit_lit _ _ (by decide), View.ld_unit_lit _ _ (by decide)]
  funext j
  obtain ⟨a, b, rfl⟩ : ∃ a b, j = ix2 a b := ⟨_, _, eq_ix2 j⟩
  refine (predOut_apply _ _ _ a b).trans ?_
  show _ = predAll (logits m c) (rowAt t a) b
  have e := row_eq t a b
  by_cases h : 4096 * t.val + (rowOf a b).val < 100000
  · rw [if_pos ((isSample_iff t (coords_val t) (lt_25 t) a b).2 h)]
    unfold predAll
    rw [dif_pos (by omega)]
    congr 1
    · funext k
      rw [fill_apply m c t d _ k h]
      congr 1
      exact Fin.ext e.symm
    · funext k
      exact iblk1 m c t k
  · rw [if_neg fun h' => h ((isSample_iff t (coords_val t) (lt_25 t) a b).1 h')]
    unfold predAll
    rw [dif_neg (by omega)]

/-! ## The launch -/

/-- What the first buffer holds of the logits after step `t`, filled out past their end with zero. -/
def held (c : Dev nD) (t : Fin cfg0.N) : S4096x1000.Idx → Elt Ideal .f32 :=
  win0_0.fill (grid0.coords t) (fun _ => (0 : EReal)) (iblk m c 0 t)

/-- The one pipeline's data on core `c`: the arrays as the region finds them; after the body the inputs at their blocks and
    the results at the samples' confidences and predictions. -/
def dats (_ : Fin 1) (c : Dev nD) : Dat τ (Elt Ideal) Unit ℕ (UR sig nD τ) ℕ cfg0 c where
  A w := V m c (Pipeline.arrRef spec0 w)
  after w t := match w with
    | ⟨0, _⟩ => held m c t
    | ⟨1, _⟩ => iblk m c 1 t
    | ⟨2, _⟩ => confStep m c t
    | ⟨3, _⟩ => predStep m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after1 (c : Dev nD) (t : Fin cfg0.N) : (dats m 0 c).after 1 t = iblk m c 1 t := by dsimp only [dats]
theorem after2 (c : Dev nD) (t : Fin cfg0.N) : (dats m 0 c).after 2 t = confStep m c t := by dsimp only [dats]
theorem after3 (c : Dev nD) (t : Fin cfg0.N) : (dats m 0 c).after 3 t = predStep m c t := by dsimp only [dats]

theorem before0 (c : Dev nD) (t : Fin cfg0.N) (d) :
    (dats m 0 c).before 0 t d = win0_0.fill (grid0.coords t) d (iblk m c 0 t) := by
  unfold Dat.before; rw [if_pos (fetch0_0 t)]; rfl
theorem before1 (c : Dev nD) (t : Fin cfg0.N) (d) : (dats m 0 c).before 1 t d = iblk m c 1 t :=
  before0_1_of m (dats m 0 c) (A_eq m c 1) (after1 m c) t d

/-- The body between a step's blocks, whatever lies past the logits' end. -/
theorem body_obligation (c : Dev nD) :
    BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  unfold bodyAt0
  iintro ⟨HΦ, Ho, ⟨%d0, H0⟩, ⟨%d1, H1⟩, ⟨%d2, H2⟩, ⟨%d3, H3⟩⟩
  rw [before0 m c t d0, before1 m c t d1]
  iapply (sound_kernel (F := Ideal) c Set.univ _ _ _ _ _ _ _ _ _ (win0_0.fill (grid0.coords t) d0 (iblk m c 0 t)) (iblk m c 1 t) _)
  isplitl [H0]; · iexact H0
  isplitl [H1]; · iexact H1
  isplitl [H2]; · iexists _; iexact H2
  isplitl [H3]; · iexists _; iexact H3
  rw [confBlk_eq, predBlk_eq]
  iintro ⟨H0, H1, H2, H3⟩
  isplitl [HΦ]; · iexact HΦ
  isplitl [Ho]; · iexact Ho
  have hx : win0_0.cut (grid0.coords t) (held m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (held m c t)))
    rw [hx]; try iexact H0
  isplitl [H1]; · iexact H1
  isplitl [H2]; · iexact H2
  iexact H3

set_option backward.isDefEq.respectTransparency.types false in
set_option maxHeartbeats 800000 in
/-- Every run ends with the pipeline's arrays at what the data say, every other array as before, and every semaphore
    counter at zero. -/
theorem run : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The frame: the argument array ends as it began, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run m ρ)))
    ((θ_run defs _ _).mono (fun _ h => h.2) (run m ρ))

/-! ## The two result arrays -/

/-- The confidences' array after the call. -/
theorem final_conf (c : Dev nD) : (dats m 0 c).arrAt 2 cfg0.N = fun j => confAll (logits m c) (j 0) (j 1) := by
  refine (dats m 0 c).arrAt_eq_of_covers 2 _ (by decide +kernel) fun t hf y => ?_
  blk_simp
  rw [after2]
  refine congrArg₂ (confAll (logits m c)) (Fin.ext ?_) (Fin.ext ?_)
  · blk_simp [idx2]; rfl
  · blk_simp [idx2]

/-- The predictions' array after the call. -/
theorem final_pred (c : Dev nD) : (dats m 0 c).arrAt 3 cfg0.N = fun j => predAll (logits m c) (j 0) (j 1) := by
  refine (dats m 0 c).arrAt_eq_of_covers 3 _ (by decide +kernel) fun t hf y => ?_
  blk_simp
  rw [after3]
  refine congrArg₂ (predAll (logits m c)) (Fin.ext ?_) (Fin.ext ?_)
  · blk_simp [idx3]; rfl
  · blk_simp [idx3]

end Cert.Kernel2Ideal.Rows

end
-- ==== Proof.Reference2.lean ====
/- The reference of the first call, run: its operations in order, what they compose to, and that the argument stays. -/
module

public import proofs.«01_k».proof.Proof.Gen.Reference2Ideal
public import Idealize.ShloMosaic.Lib.StableHlo.Run

@[expose] public section

noncomputable section

namespace Cert.Reference2Ideal.Value

open Cert.Reference2Ideal Cert.Reference2Ideal.Gen Idealize.ShloMosaic Idealize.ShloMosaic.TcCoe Idealize.SL.Sem Idealize.ShloMosaic.StableHlo

variable {F : FTy → Type} [FloatOps F]

/-! ## What the operations compose to -/

/-- Each row's greatest logit, which is at least -∞. -/
def tops (x : FVec F S100000x1000 .f32) : FVec F S100000 .f32 :=
  maximumf (broadcastInDim S100000 ![] bcast_S_S100000 (constant S_ .f32 0xFF800000#32))
    (Host.reduce FloatOps.maximumf x (constant S_ .f32 0xFF800000#32) reducesTo_S100000x1000_S100000_d1 h_S_)

/-- A number for each row, along the row. -/
def along (v : FVec F S100000 .f32) : FVec F S100000x1000 .f32 :=
  broadcastInDim S100000x1000 ![0, 1] bcast_S100000x1_S100000x1000_0_1 (broadcastInDim S100000x1 ![0] bcast_S100000_S100000x1_0 v)

/-- The logits less their row's greatest. -/
def shifted (x : FVec F S100000x1000 .f32) : FVec F S100000x1000 .f32 := subf x (along (tops x))

/-- The row sums of a matrix. -/
def sums (e : FVec F S100000x1000 .f32) : FVec F S100000 .f32 :=
  Host.reduceAdd e (constant S_ .f32 0x00000000#32) reducesTo_S100000x1000_S100000_d1 h_S_

/-- The softmax of each row. -/
def softmax (x : FVec F S100000x1000 .f32) : FVec F S100000x1000 .f32 :=
  Host.divf (Host.exp (shifted x)) (along (sums (Host.exp (shifted x))))

/-- The greatest of each row. -/
def greatest (p : FVec F S100000x1000 .f32) : FVec F S100000 .f32 :=
  Host.reduce FloatOps.maximumf p (constant S_ .f32 0xFF800000#32) reducesTo_S100000x1000_S100000_d1 h_S_

/-- The words that a search for the greatest numbers ends at. -/
def wordsOf {s t u : Shape} {axes : List (Fin s.rank)} (p : FVec F s .f32) (y : IVec s 32) (c : FVec F u .f32) (w : IVec u 32)
    (hr : s.ReducesTo axes t) (hu : 0 < u.numel) : IVec t 32 := fun j => (Host.argReduce reducer_argmax_f32_i32 p y c w hr hu j).2

/-- Where each row is greatest. -/
def argmax (p : FVec F S100000x1000 .f32) : IVec S100000 32 :=
  wordsOf p (iotaInDim S100000x1000 32 1) (constant S_ .f32 0xFF800000#32) (constantI S_ 32 0#32) reducesTo_S100000x1000_S100000_d1 h_S_

/-- The samples' values followed by the padding. -/
def joinF (a : FVec F S100000 .f32) (b : FVec F S2400 .f32) : FVec F S102400 .f32 :=
  concatenate S102400 0 [⟨S100000, a⟩, ⟨S2400, b⟩] concatenates_S100000_S2400_S102400_d0
def joinI (a : IVec S100000 32) (b : IVec S2400 32) : IVec S102400 32 :=
  concatenate S102400 0 [⟨S100000, a⟩, ⟨S2400, b⟩] concatenates_S100000_S2400_S102400_d0

/-- A number for each sample, padded with 2 and laid out in rows of 128. -/
def laidF (v : FVec F S100000 .f32) : FVec F S800x128 .f32 :=
  shapeCast S800x128 (joinF v (broadcastInDim S2400 ![] bcast_S_S2400 (constant S_ .f32 0x40000000#32))) shapeCasts_S102400_S800x128

/-- A word for each sample, padded with the padding word and laid out in rows of 128. -/
def laidI (v : IVec S100000 32) : IVec S800x128 32 :=
  shapeCast S800x128 (joinI v (broadcastInDim S2400 ![] bcast_S_S2400 (constantI S_ 32 2147482624#32))) shapeCasts_S102400_S800x128

/-! ## The run -/

/-- @main's operations, in order (the called function's in its call's place). -/
abbrev ops : List (HloOp τ sig (Elt F)) :=
  [ nullary main_cst (constant S_ .f32 0xFF800000#32),
    binary main_arg0 main_cst main_v0 ((fun x v => Host.reduce FloatOps.maximumf x v reducesTo_S100000x1000_S100000_d1 h_S_) : (⟨S100000x1000, .f32⟩ : BufTy).Contents (Elt F) → (⟨S_, .f32⟩ : BufTy).Contents (Elt F) → (⟨S100000, .f32⟩ : BufTy).Contents (Elt F)),
    nullary main_cst_0 (constant S_ .f32 0xFF800000#32),
    unary main_cst_0 main_v1 (broadcastInDim S100000 ![] bcast_S_S100000 : (⟨S_, .f32⟩ : BufTy).Contents (Elt F) → (⟨S100000, .f32⟩ : BufTy).Contents (Elt F)),
    binary main_v1 main_v0 main_v2 (maximumf : (⟨S100000, .f32⟩ : BufTy).Contents (Elt F) → (⟨S100000, .f32⟩ : BufTy).Contents (Elt F) → (⟨S100000, .f32⟩ : BufTy).Contents (Elt F)),
    unary main_v2 main_v3 (broadcastInDim S100000x1 ![0] bcast_S100000_S100000x1_0 : (⟨S100000, .f32⟩ : BufTy).Contents (Elt F) → (⟨S100000x1, .f32⟩ : BufTy).Contents (Elt F)),
    unary main_v3 main_v4 (broadcastInDim S100000x1000 ![0, 1] bcast_S100000x1_S100000x1000_0_1 : (⟨S100000x1, .f32⟩ : BufTy).Contents (Elt F) → (⟨S100000x1000, .f32⟩ : BufTy).Contents (Elt F)),
    binary main_arg0 main_v4 main_v5 (subf : (⟨S100000x1000, .f32⟩ : BufTy).Contents (Elt F) → (⟨S100000x1000, .f32⟩ : BufTy).Contents (Elt F) → (⟨S100000x1000, .f32⟩ : BufTy).Contents (Elt F)),
    unary main_v5 main_v6 (Host.exp : (⟨S100000x1000, .f32⟩ : BufTy).Contents (Elt F) → (⟨S100000x1000, .f32⟩ : BufTy).Contents (Elt F)),
    nullary main_cst_1 (constant S_ .f32 0x00000000#32),
    binary main_v6 main_cst_1 main_v7 ((fun x v => Host.reduceAdd x v reducesTo_S100000x1000_S100000_d1 h_S_) : (⟨S100000x1000, .f32⟩ : BufTy).Contents (Elt F) → (⟨S_, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    unary main_v8 main_v9 (broadcastInDim S100000x1000 ![0, 1] bcast_S100000x1_S100000x1000_0_1 : (⟨S100000x1, .f32⟩ : BufTy).Contents (Elt F) → (⟨S100000x1000, .f32⟩ : BufTy).Contents (Elt F)),
    binary main_v6 main_v9 main_v10 (Host.divf : (⟨S100000x1000, .f32⟩ : BufTy).Contents (Elt F) → (⟨S100000x1000, .f32⟩ : BufTy).Contents (Elt F) → (⟨S100000x1000, .f32⟩ : BufTy).Contents (Elt F)),
    nullary main_cst_2 (constant S_ .f32 0xFF800000#32),
    binary main_v10 main_cst_2 main_v11 ((fun x v => Host.reduce FloatOps.maximumf x v reducesTo_S100000x1000_S100000_d1 h_S_) : (⟨S100000x1000, .f32⟩ : BufTy).Contents (Elt F) → (⟨S_, .f32⟩ : BufTy).Contents (Elt F) → (⟨S100000, .f32⟩ : BufTy).Contents (Elt F)),
    TRef.nullary main_call0.v0 (iotaInDim S100000x1000 32 1),
    TRef.nullary main_call0.cst (constant S_ .f32 0xFF800000#32),
    TRef.nullary main_call0.c (constantI S_ 32 0#32),
    TRef.quaternary (.of main_v10) main_call0.v0 main_call0.cst main_call0.c main_call0.v1_0 (fun x y u v j => (Host.argReduce reducer_argmax_f32_i32 x y u v reducesTo_S100000x1000_S100000_d1 h_S_ j).1),
    TRef.quaternary (.of main_v10) main_call0.v0 main_call0.cst main_call0.c main_call0.v1_1 (fun x y u v j => (Host.argReduce reducer_argmax_f32_i32 x y u v reducesTo_S100000x1000_S100000_d1 h_S_ j).2),
    nullary main_cst_3 (constant S_ .f32 0x40000000#32),
    unary main_cst_3 main_v13 (broadcastInDim S2400 ![] bcast_S_S2400 : (⟨S_, .f32⟩ : BufTy).Contents (Elt F) → (⟨S2400, .f32⟩ : BufTy).Contents (Elt F)),
    binary main_v11 main_v13 main_v14 (joinF : (⟨S100000, .f32⟩ : BufTy).Contents (Elt F) → (⟨S2400, .f32⟩ : BufTy).Contents (Elt F) → (⟨S102400, .f32⟩ : BufTy).Contents (Elt F)),
    nullary main_c (constantI S_ 32 2147482624#32),
    unary main_c main_v15 (broadcastInDim S2400 ![] bcast_S_S2400 : (⟨S_, .i32⟩ : BufTy).Contents (Elt F) → (⟨S2400, .i32⟩ : BufTy).Contents (Elt F)),
    binary main_v12 main_v15 main_v16 (joinI : (⟨S100000, .i32⟩ : BufTy).Contents (Elt F) → (⟨S2400, .i32⟩ : BufTy).Contents (Elt F) → (⟨S102400, .i32⟩ : BufTy).Contents (Elt F)),
    reshape main_v14 main_v17 (rfl : (.f32 : EltTy) = .f32) shapeCasts_S102400_S800x128,
    reshape main_v16 main_v18 (rfl : (.i32 : EltTy) = .i32) shapeCasts_S102400_S800x128 ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., reshape_bufs_sub .., reshape_bufs_sub ..⟩

set_option maxRecDepth 8192 in
set_option maxHeartbeats 2000000 in
/-- From any memory with zero counters every run of the reference ends with its two results at the laid-out greatest
    softmax values and their places, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = laidF (greatest (softmax (m ((c.tc : Thread nD τ).loc main_arg0))))
      ∧ r.2.mem ((c.tc : Thread nD τ).loc main_v18) = laidI (argmax (softmax (m ((c.tc : Thread nD τ).loc main_arg0))))
      ∧ r.2.mem ((c.tc : Thread nD τ).loc main_arg0) = m ((c.tc : Thread nD τ).loc main_arg0) :=
  (θ_run defs _ _).mono (fun _ h c => ⟨(h c main_v17).trans (by simp only [ops, TRef.binary, TRef.nullary, TRef.quaternary, TRef.toBuf, TRef.ofBuf, cast_eq]; after_results_simp <;> rfl),
      (h c main_v18).trans (by simp only [ops, TRef.binary, TRef.nullary, TRef.quaternary, TRef.toBuf, TRef.ofBuf, cast_eq]; after_results_simp <;> rfl),
      (h c main_arg0).trans (by simp only [ops, TRef.binary, TRef.nullary, TRef.quaternary, TRef.toBuf, TRef.ofBuf, cast_eq]; after_results_simp <;> rfl)⟩)
    (run_seq scopedRefs_eq scopedSems_eq defs main (fun _ => ops) main_eq (fun _ => ops_sub) m ρ)

end Cert.Reference2Ideal.Value

end
-- ==== Proof.FirstMax.lean ====
/- The first greatest of a finite row, the ways the two programs find it, and the exponentials of a row. -/
module

public import Idealize.ShloMosaic.PureOps
public import Idealize.ShloMosaic.PureOps.Ideal
public import Idealize.ShloMosaic.PureOps.Ideal.Laws
public import Idealize.ShloMosaic.PureOps.Reduce

@[expose] public section

noncomputable section

namespace Cert.FirstMax

open Idealize.ShloMosaic

/-- `m` is the first place where the row `x` is greatest. -/
structure First {K : ℕ} (x : Fin K → EReal) (m : Fin K) : Prop where
  le : ∀ k, x k ≤ x m
  lt : ∀ k, k < m → x k < x m

/-- Every row that is not empty has one. -/
theorem exists_first {K : ℕ} (x : Fin K → EReal) (k₀ : Fin K) : ∃ m, First x m := by
  classical
  obtain ⟨g, -, hg⟩ := Finset.exists_max_image Finset.univ x ⟨k₀, Finset.mem_univ _⟩
  have hne : (Finset.univ.filter fun k => x k = x g).Nonempty := ⟨g, Finset.mem_filter.2 ⟨Finset.mem_univ _, rfl⟩⟩
  refine ⟨(Finset.univ.filter fun k => x k = x g).min' hne, ?_, ?_⟩
  · have h := (Finset.mem_filter.1 (Finset.min'_mem _ hne)).2
    intro k; rw [h]; exact hg k (Finset.mem_univ _)
  · have h := (Finset.mem_filter.1 (Finset.min'_mem _ hne)).2
    intro k hk
    rw [h]
    refine lt_of_le_of_ne (hg k (Finset.mem_univ _)) fun e => ?_
    exact absurd (Finset.min'_le _ k (Finset.mem_filter.2 ⟨Finset.mem_univ _, e⟩)) (not_le.2 hk)

theorem neg_inf : Ideal.ofBits .f32 0xFF800000#32 = (⊥ : EReal) := by
  simp [Ideal.ofBits, Ideal.ieee]

theorem inf : Ideal.ofBits .f32 0x7F800000#32 = (⊤ : EReal) := by
  simp [Ideal.ofBits, Ideal.ieee]

theorem zero : Ideal.ofBits .f32 0x00000000#32 = (0 : EReal) := by
  simp [Ideal.ofBits, Ideal.ieee]

/-- The greatest of the row, found from below every number. -/
theorem fold_max {K : ℕ} {x : Fin K → EReal} {m : Fin K} (h : First x m) : Finset.univ.fold max (⊥ : EReal) x = x m :=
  le_antisymm ((Finset.fold_max_le _).2 ⟨bot_le, fun k _ => h.le k⟩) ((Finset.le_fold_max _).2 (Or.inr ⟨m, Finset.mem_univ _, le_rfl⟩))

/-- The sum of reals is the sum as extended reals. -/
theorem coe_sum {K : ℕ} (f : Fin K → ℝ) : ∑ k, ((f k : ℝ) : EReal) = ((∑ k, f k : ℝ) : EReal) := by
  classical
  induction (Finset.univ : Finset (Fin K)) using Finset.induction_on with
  | empty => simp
  | insert a s ha ih => rw [Finset.sum_insert ha, Finset.sum_insert ha, ih, EReal.coe_add]

theorem div_reals (a b : ℝ) (h : b ≠ 0) : Ideal.div (a : EReal) (b : EReal) = ((a / b : ℝ) : EReal) := by
  rw [Ideal.div_coe h, ← EReal.coe_mul, mul_one_div]

/-! ## Exponentials -/

/-- The exponential of a number below ∞, as a real. -/
def ex (a : EReal) : ℝ := (Ideal.exp a).toReal

theorem ex_bot : ex ⊥ = 0 := rfl
theorem ex_coe (r : ℝ) : ex (r : EReal) = Real.exp r := rfl

theorem exp_eq {a : EReal} (h : a < ⊤) : Ideal.exp a = ((ex a : ℝ) : EReal) := by
  induction a with
  | bot => rfl
  | coe r => rfl
  | top => exact absurd h (lt_irrefl _)

theorem ex_nonneg (a : EReal) : 0 ≤ ex a := by
  induction a with
  | bot => exact le_rfl
  | coe r => exact (Real.exp_pos r).le
  | top => exact le_rfl

/-- It rises with the number. -/
theorem ex_lt {a b : EReal} (hab : a < b) (hb : b < ⊤) : ex a < ex b := by
  induction b with
  | bot => exact absurd hab not_lt_bot
  | top => exact absurd hb (lt_irrefl _)
  | coe r =>
    rw [ex_coe]
    induction a with
    | bot => exact Real.exp_pos r
    | coe q => exact Real.exp_lt_exp.2 (EReal.coe_lt_coe_iff.1 hab)
    | top => exact absurd hab not_top_lt

theorem ex_le {a b : EReal} (hab : a ≤ b) (hb : b < ⊤) : ex a ≤ ex b := by
  rcases hab.lt_or_eq with h | rfl
  · exact (ex_lt h hb).le
  · exact le_rfl

/-- Less a real, the exponential is scaled. -/
theorem exp_sub {a : EReal} (h : a < ⊤) (b : ℝ) : Ideal.exp (a - (b : EReal)) = ((ex a * Real.exp (-b) : ℝ) : EReal) := by
  induction a with
  | bot => rw [EReal.bot_sub, ex_bot, zero_mul]; rfl
  | coe r => rw [← EReal.coe_sub, Ideal.exp_coe, ex_coe, ← Real.exp_add, sub_eq_add_neg]
  | top => exact absurd h (lt_irrefl _)

/-! ## The greatest word -/

/-- A fold of the signed maximum is the greatest word, where one is at least the start and every other. -/
theorem fold_maxsi {K : ℕ} (b : BitVec 32) (w : Fin K → BitVec 32) (m : Fin K) (hb : b.toInt ≤ (w m).toInt)
    (h : ∀ k, (w k).toInt ≤ (w m).toInt) : Finset.univ.fold IntOp.maxsi b w = w m := by
  classical
  have key : ∀ s : Finset (Fin K), (s.fold IntOp.maxsi b w).toInt ≤ (w m).toInt ∧ (m ∈ s → s.fold IntOp.maxsi b w = w m) := by
    intro s
    induction s using Finset.induction_on with
    | empty => exact ⟨by rw [Finset.fold_empty]; exact hb, fun e => absurd e (Finset.notMem_empty _)⟩
    | insert a s ha ih =>
      rw [Finset.fold_insert ha]
      generalize s.fold IntOp.maxsi b w = v at ih ⊢
      obtain ⟨h1, h2⟩ := ih
      unfold IntOp.maxsi
      have hs : (v.slt (w a) = true) ↔ v.toInt < (w a).toInt := by simp [BitVec.slt]
      by_cases hlt : v.slt (w a) = true
      · rw [if_pos hlt]
        refine ⟨h a, fun hm => ?_⟩
        rcases Finset.mem_insert.1 hm with rfl | hm
        · rfl
        · have := hs.1 hlt; rw [h2 hm] at this; exact absurd (h a) (not_le.2 this)
      · rw [if_neg hlt]
        refine ⟨h1, fun hm => ?_⟩
        rcases Finset.mem_insert.1 hm with rfl | hm
        · exact BitVec.eq_of_toInt_eq (le_antisymm h1 (not_lt.1 fun hh => hlt (hs.2 hh)))
        · exact h2 hm
  exact (key Finset.univ).2 (Finset.mem_univ _)

/-! ## The reference's search -/

variable {α β : Type}

/-- A search that keeps one of its two candidates, meets the best one, and keeps it against all others, ends with it. -/
theorem foldl_best (f : α → α → α) (P : α → Prop) (best init : α) (hinit : P init) (hkeep : ∀ a b, P a → P b → P (f a b))
    (hmeet : ∀ a, P a → f a best = best) (hstay : ∀ b, P b → f best b = best) (l : List α) (hl : ∀ b ∈ l, P b) (hb : best ∈ l) :
    l.foldl f init = best := by
  have stay : ∀ l : List α, (∀ b ∈ l, P b) → l.foldl f best = best := by
    intro l
    induction l with
    | nil => intro _; rfl
    | cons b l ih =>
      intro h
      rw [List.foldl_cons, hstay b (h b List.mem_cons_self)]
      exact ih fun c hc => h c (List.mem_cons_of_mem _ hc)
  induction l generalizing init with
  | nil => exact absurd hb List.not_mem_nil
  | cons b l ih =>
    rw [List.foldl_cons]
    have hPl : ∀ c ∈ l, P c := fun c hc => hl c (List.mem_cons_of_mem _ hc)
    rcases List.mem_cons.1 hb with rfl | hb
    · rw [hmeet _ hinit]
      exact stay l hPl
    · exact ih (f init b) (hkeep _ _ hinit (hl b List.mem_cons_self)) hPl hb

end Cert.FirstMax

end
-- ==== Proof.Softmax.lean ====
/- The first call's two results and its reference's, row by row: for logits below ∞ they agree. -/
module

public import proofs.«01_k».proof.Proof.Rows
public import proofs.«01_k».proof.Proof.Reference2
public import proofs.«01_k».proof.Proof.FirstMax
public import proofs.«01_k».proof.Pre_below_infinity

@[expose] public section

set_option maxRecDepth 16384

noncomputable section

namespace Cert.Softmax

open Cert.FirstMax Cert.Kernel2Ideal.Rows Cert.Reference2Ideal.Value
open Idealize.ShloMosaic
open Cert.Reference2Ideal (S100000x1000 S_ S100000 S100000x1 S2400 S102400 S800x128 reducer_argmax_f32_i32)
open Cert.Reference2Ideal.Gen

/-! ## The kernel's row -/

variable {r : Fin 1000 → EReal} {m : Fin 1000}

theorem top_eq (h : First r m) : top r = r m := by
  unfold top
  rw [neg_inf]
  exact fold_max h

/-- The kernel's confidence of a row below ∞. -/
theorem rowConf_eq (hr : ∀ k, r k < ⊤) (h : First r m) :
    rowConf r = Ideal.div ((ex (r m) : ℝ) : EReal) ((∑ k, ex (r k) : ℝ) : EReal) := by
  unfold rowConf
  rw [top_eq h, exp_eq (hr m), ← coe_sum]
  exact congrArg _ (Finset.sum_congr rfl fun k _ => exp_eq (hr k))

theorem toInt_class (k : ℕ) (hk : k < 1000) : (IntOp.subi 1023#32 (BitVec.ofNat 32 k)).toInt = 1023 - (k : ℤ) := by
  unfold IntOp.subi
  rw [BitVec.toInt_eq_toNat_cond, BitVec.toNat_sub]
  simp only [BitVec.toNat_ofNat]
  rw [Nat.mod_eq_of_lt (show k < 2 ^ 32 by omega)]
  split <;> omega

/-- The kernel's prediction of a row: the first class where it is greatest. -/
theorem rowPred_eq (h : First r m) : rowPred r (fun k => IntOp.subi 1023#32 (BitVec.ofNat 32 k.val)) = BitVec.ofNat 32 m.val := by
  unfold rowPred
  rw [top_eq h]
  rw [fold_maxsi _ _ m]
  · rw [if_pos rfl]
    unfold IntOp.subi
    have hm := m.isLt
    apply BitVec.eq_of_toNat_eq
    simp only [BitVec.toNat_sub, BitVec.toNat_ofNat]
    omega
  · rw [if_pos rfl, toInt_class _ m.isLt]
    have := m.isLt
    have e : (2147483648#32 : BitVec 32).toInt = -2147483648 := by decide
    omega
  · intro k
    rw [if_pos rfl, toInt_class _ m.isLt]
    have hm := m.isLt
    by_cases e : r k = r m
    · rw [if_pos e, toInt_class _ k.isLt]
      have hk : ¬ k < m := fun hlt => absurd e (h.lt k hlt).ne
      have : m.val ≤ k.val := not_lt.1 hk
      omega
    · rw [if_neg e]
      have e0 : (0#32 : BitVec 32).toInt = 0 := by decide
      omega

/-! ## The reference's row -/

variable (A : FVec Ideal S100000x1000 .f32)

theorem along_apply (v : FVec Ideal S100000 .f32) (n : Fin 100000) (k : Fin 1000) : along v (ix2 n k) = v (ix1 n) := by
  unfold along
  pointwise

theorem max_apply {s : Shape} (p q : FVec Ideal s .f32) (j : s.Idx) : maximumf p q j = max (p j) (q j) := rfl
theorem sub_apply {s : Shape} (p q : FVec Ideal s .f32) (j : s.Idx) : subf p q j = (p j : EReal) - q j := rfl
theorem div_exp_apply {s : Shape} (p q : FVec Ideal s .f32) (j : s.Idx) : Host.divf (Host.exp p) q j = Ideal.div (Ideal.exp (p j)) (q j) := rfl

theorem reduce_apply (x : FVec Ideal S100000x1000 .f32) (n : Fin 100000) :
    Host.reduce FloatOps.maximumf x (constant S_ .f32 0xFF800000#32) reducesTo_S100000x1000_S100000_d1 h_S_ (ix1 n) = top (row x n) := by
  unfold top row
  pointwise

theorem start_apply (n : Fin 100000) :
    broadcastInDim S100000 ![] bcast_S_S100000 (constant (F := Ideal) S_ .f32 0xFF800000#32) (ix1 n) = Ideal.ofBits .f32 0xFF800000#32 := by
  pointwise

theorem tops_apply (n : Fin 100000) : tops A (ix1 n) = max (Ideal.ofBits .f32 0xFF800000#32) (top (row A n)) :=
  (max_apply _ _ (ix1 n)).trans (congrArg₂ max (start_apply n) (reduce_apply A n))

theorem shifted_apply (n : Fin 100000) (k : Fin 1000) :
    shifted A (ix2 n k) = row A n k - max (Ideal.ofBits .f32 0xFF800000#32) (top (row A n)) :=
  (sub_apply A (along (tops A)) (ix2 n k)).trans (congrArg (fun y : EReal => row A n k - y) ((along_apply _ n k).trans (tops_apply A n)))

theorem sums_apply (e : FVec Ideal S100000x1000 .f32) (n : Fin 100000) :
    sums e (ix1 n) = Ideal.ofBits .f32 0x00000000#32 + ∑ l : Fin 1000, row e n l := by
  unfold sums row
  pointwise

theorem greatest_apply (p : FVec Ideal S100000x1000 .f32) (n : Fin 100000) :
    greatest p (ix1 n) = top (row p n) := by
  unfold greatest top row
  pointwise

variable {A} {n : Fin 100000}

theorem shifted_eq (h : First (row A n) m) (k : Fin 1000) : shifted A (ix2 n k) = row A n k - row A n m := by
  rw [shifted_apply, top_eq h, neg_inf, max_eq_right bot_le]

theorem expd_eq (h : First (row A n) m) (k : Fin 1000) : Host.exp (shifted A) (ix2 n k) = Ideal.exp (row A n k - row A n m) :=
  (show Host.exp (shifted A) (ix2 n k) = Ideal.exp (shifted A (ix2 n k)) from rfl).trans (congrArg Ideal.exp (shifted_eq h k))

theorem mass_eq (h : First (row A n) m) : sums (Host.exp (shifted A)) (ix1 n) = ∑ k, Ideal.exp (row A n k - row A n m) := by
  rw [sums_apply, zero, zero_add]
  exact Finset.sum_congr rfl fun k _ => expd_eq h k

theorem softmax_apply (h : First (row A n) m) (k : Fin 1000) :
    softmax A (ix2 n k) = Ideal.div (Ideal.exp (row A n k - row A n m)) (∑ l, Ideal.exp (row A n l - row A n m)) := by
  refine (div_exp_apply (shifted A) (along (sums (Host.exp (shifted A)))) (ix2 n k)).trans ?_
  rw [along_apply, mass_eq h, shifted_eq h]

/-- The softmax of a row below ∞ is first greatest where the row is, and its greatest is the kernel's confidence. -/
theorem softmax_first (hr : ∀ k, row A n k < ⊤) (h : First (row A n) m) :
    First (row (softmax A) n) m ∧ row (softmax A) n m = rowConf (row A n) := by
  have hs (k : Fin 1000) : row (softmax A) n k = Ideal.div (Ideal.exp (row A n k - row A n m)) (∑ l, Ideal.exp (row A n l - row A n m)) :=
    softmax_apply h k
  rw [rowConf_eq hr h]
  generalize row (softmax A) n = s at hs ⊢
  generalize row A n = r at hr h hs ⊢
  rcases eq_or_ne (r m) ⊥ with hb | hb
  · have hall (k : Fin 1000) : r k = ⊥ := le_bot_iff.1 ((h.le k).trans_eq hb)
    have he (k : Fin 1000) : Ideal.exp (r k - r m) = ((0 : ℝ) : EReal) := by
      rw [hall k, EReal.bot_sub]; rfl
    have hc (k : Fin 1000) : s k = Ideal.div ((0 : ℝ) : EReal) ((∑ _l : Fin 1000, (0 : ℝ) : ℝ) : EReal) := by
      rw [hs k, he k, ← coe_sum]
      exact congrArg _ (Finset.sum_congr rfl fun l _ => he l)
    refine ⟨⟨fun k => ((hc k).trans (hc m).symm).le, fun k hk => absurd (h.lt k hk) (by rw [hb]; exact not_lt_bot)⟩, (hc m).trans ?_⟩
    simp only [hall, ex_bot]
  · obtain ⟨b, hb⟩ : ∃ b : ℝ, r m = (b : EReal) := ⟨(r m).toReal, (EReal.coe_toReal (hr m).ne hb).symm⟩
    have hpos : 0 < ∑ l, ex (r l) := (show 0 < ex (r m) by rw [hb, ex_coe]; exact Real.exp_pos b).trans_le
      (Finset.single_le_sum (f := fun l => ex (r l)) (fun l _ => ex_nonneg _) (Finset.mem_univ m))
    have hc (k : Fin 1000) : s k = ((ex (r k) / ∑ l, ex (r l) : ℝ) : EReal) := by
      have hsum : ∑ l, Ideal.exp (r l - r m) = (((∑ l, ex (r l)) * Real.exp (-b) : ℝ) : EReal) := by
        rw [Finset.sum_mul, ← coe_sum]
        exact Finset.sum_congr rfl fun l _ => by rw [hb]; exact exp_sub (hr l) b
      rw [hs k, hsum, hb, exp_sub (hr k) b, div_reals _ _ (mul_pos hpos (Real.exp_pos _)).ne', mul_div_mul_right _ _ (Real.exp_pos _).ne']
    refine ⟨⟨fun k => ?_, fun k hk => ?_⟩, ?_⟩
    · rw [hc k, hc m]
      exact EReal.coe_le_coe_iff.2 (div_le_div_of_nonneg_right (ex_le (h.le k) (hr m)) hpos.le)
    · rw [hc k, hc m]
      exact EReal.coe_lt_coe_iff.2 (div_lt_div_of_pos_right (ex_lt (h.lt k hk) (hr m)) hpos)
    · rw [hc m, div_reals _ _ hpos.ne']

/-- The reference's confidence of a row below ∞ is the kernel's. -/
theorem conf_agree (hr : ∀ k, row A n k < ⊤) (h : First (row A n) m) : greatest (softmax A) (ix1 n) = rowConf (row A n) := by
  rw [greatest_apply, top_eq (softmax_first hr h).1, (softmax_first hr h).2]

/-! ## The reference's search for the first greatest -/

/-- Of two candidates the search keeps the greater number, of two equal numbers the one with the smaller word. -/
theorem keep_eq (a b : EReal × BitVec 32) : reducer_argmax_f32_i32 (F := Ideal) a b
    = if b.1 < a.1 ∨ (a.1 = b.1 ∧ a.2.slt b.2 = true) then a else b := by
  obtain ⟨a, v⟩ := a
  obtain ⟨b, w⟩ := b
  unfold reducer_argmax_f32_i32
  simp only [Ideal.cmpf_def, Ideal.cmp, Scalar.select, IntOp.cmpi, IntOp.ori, IntOp.andi]
  rcases lt_trichotomy b a with hlt | rfl | hlt
  · simp [hlt, hlt.ne']
  · by_cases hs : v.slt w = true <;> simp [hs]
  · simp [hlt.not_gt, hlt.ne, hlt.ne']

/-- The candidates of a row: each class's number with the class's word. -/
theorem candidates {N K : ℕ} (p : (⟨2, ![N, K]⟩ : Shape).Idx → EReal) (y : (⟨2, ![N, K]⟩ : Shape).Idx → BitVec 32)
    (hr : (⟨2, ![N, K]⟩ : Shape).ReducesTo [1] ⟨1, ![N]⟩) (n : Fin N) (q : EReal × BitVec 32) :
    q ∈ Host.argReduceFiber p y hr (ix1 n) ↔ ∃ k : Fin K, q = (p (ix2 n k), y (ix2 n k)) := by
  unfold Host.argReduceFiber
  rw [List.mem_map]
  constructor
  · rintro ⟨i, hi, rfl⟩
    obtain ⟨k, hk⟩ := (hr.fiber_r2_a1 (ix1 n) ((⟨2, ![N, K]⟩ : Shape).rowMajor.symm i)).1 (of_decide_eq_true (List.mem_filter.1 hi).2)
    refine ⟨k, ?_⟩
    rw [← hk]
    rfl
  · rintro ⟨k, rfl⟩
    refine ⟨(⟨2, ![N, K]⟩ : Shape).rowMajor (ix2 n k), List.mem_filter.2 ⟨List.mem_finRange _, decide_eq_true ?_⟩, ?_⟩
    · rw [Equiv.symm_apply_apply]
      exact (hr.fiber_r2_a1 (ix1 n) (ix2 n k)).2 ⟨k, rfl⟩
    · rw [Equiv.symm_apply_apply]

theorem fiber_mem (p : FVec Ideal S100000x1000 .f32) (n : Fin 100000) (q : EReal × BitVec 32) :
    q ∈ Host.argReduceFiber p (iotaInDim S100000x1000 32 1) reducesTo_S100000x1000_S100000_d1 (ix1 n)
      ↔ ∃ k : Fin 1000, q = (row p n k, BitVec.ofNat 32 k.val) :=
  candidates p (iotaInDim S100000x1000 32 1) reducesTo_S100000x1000_S100000_d1 n q

theorem slt_class {a b : ℕ} (ha : a < 1000) (hb : b < 1000) : (BitVec.ofNat 32 a).slt (BitVec.ofNat 32 b) = true ↔ a < b := by
  simp only [BitVec.slt, BitVec.toInt_eq_toNat_cond, BitVec.toNat_ofNat]
  rw [Nat.mod_eq_of_lt (by omega), Nat.mod_eq_of_lt (by omega), if_pos (by omega), if_pos (by omega), decide_eq_true_iff]
  omega

/-- The search over the candidates of a row ends at the first greatest. -/
theorem search (h : First r m) (l : List (EReal × BitVec 32)) (hl : ∀ q ∈ l, ∃ k : Fin 1000, q = (r k, BitVec.ofNat 32 k.val))
    (hm : (r m, BitVec.ofNat 32 m.val) ∈ l) :
    l.foldl (reducer_argmax_f32_i32 (F := Ideal)) ((⊥ : EReal), 0#32) = (r m, BitVec.ofNat 32 m.val) := by
  have first (e : r m = ⊥) : ¬ 0 < m.val := fun hp => absurd (h.lt ⟨0, by omega⟩ hp) (by rw [e]; exact not_lt_bot)
  refine foldl_best (reducer_argmax_f32_i32 (F := Ideal)) (fun q => q = ((⊥ : EReal), 0#32) ∨ ∃ k : Fin 1000, q = (r k, BitVec.ofNat 32 k.val))
    (r m, BitVec.ofNat 32 m.val) ((⊥ : EReal), 0#32) (Or.inl rfl) ?_ ?_ ?_ l (fun q hq => Or.inr (hl q hq)) hm
  · intro a b ha hb
    rw [keep_eq]
    split
    · exact ha
    · exact hb
  · rintro a (rfl | ⟨k, rfl⟩)
    · rw [keep_eq, if_neg]
      rintro (hlt | ⟨he, hs⟩)
      · exact not_lt_bot hlt
      · exact first he.symm ((slt_class (a := 0) (by omega) m.isLt).1 hs)
    · rw [keep_eq, if_neg]
      rintro (hlt | ⟨he, hs⟩)
      · exact absurd (h.le k) (not_le.2 hlt)
      · exact absurd he (h.lt k ((slt_class k.isLt m.isLt).1 hs)).ne
  · rintro b (rfl | ⟨k, rfl⟩)
    · rcases eq_or_ne (r m) ⊥ with e | e
      · have hm0 : m.val = 0 := Nat.eq_zero_of_not_pos (first e)
        rw [e, hm0, keep_eq]
        split <;> rfl
      · rw [keep_eq, if_pos (Or.inl (bot_lt_iff_ne_bot.2 e))]
    · rw [keep_eq]
      rcases lt_trichotomy k m with hk | rfl | hk
      · rw [if_pos (Or.inl (h.lt k hk))]
      · split <;> rfl
      · rw [if_pos]
        rcases (h.le k).lt_or_eq with hlt | he
        · exact Or.inl hlt
        · exact Or.inr ⟨he.symm, (slt_class m.isLt k.isLt).2 hk⟩

/-- The reference's search ends at the word that the fold over its candidates ends at. -/
theorem search_fold {s t u : Shape} {axes : List (Fin s.rank)} (p : FVec Ideal s .f32)
    (y : IVec s 32) (c : FVec Ideal u .f32) (w : IVec u 32) (hr : s.ReducesTo axes t)
    (hu : 0 < u.numel) (j : t.Idx) (c₀ : EReal) (w₀ : BitVec 32) (hc : ∀ i, c i = c₀) (hw : ∀ i, w i = w₀) (z : EReal × BitVec 32)
    (hz : (Host.argReduceFiber p y hr j).foldl (reducer_argmax_f32_i32 (F := Ideal)) (c₀, w₀) = z) :
    wordsOf p y c w hr hu j = z.2 := by
  unfold wordsOf
  rw [Ideal.argReduce_eq_reduce2, Host.reduce2_eq_foldl_fiber, hc, hw]
  exact congrArg Prod.snd hz

/-- Where a row is first greatest, there the reference finds it. -/
theorem argmax_eq (p : FVec Ideal S100000x1000 .f32) (h : First (row p n) m) : argmax p (ix1 n) = BitVec.ofNat 32 m.val := by
  have hmem := fiber_mem p n
  exact search_fold p (iotaInDim S100000x1000 32 1) (constant S_ .f32 0xFF800000#32)
    (constantI S_ 32 0#32) reducesTo_S100000x1000_S100000_d1 h_S_ (ix1 n) ⊥ 0#32 (fun _ => neg_inf) (fun _ => rfl) (row p n m, BitVec.ofNat 32 m.val)
    (search h _ (fun q hq => (hmem q).1 hq) ((hmem _).2 ⟨m, rfl⟩))

/-- The reference's prediction of a row below ∞ is the kernel's. -/
theorem pred_agree (hr : ∀ k, row A n k < ⊤) (h : First (row A n) m) :
    argmax (softmax A) (ix1 n) = rowPred (row A n) fun k => IntOp.subi 1023#32 (BitVec.ofNat 32 k.val) := by
  rw [argmax_eq _ (softmax_first hr h).1, rowPred_eq h]

/-! ## The results laid out -/

/-- Row `a`, column `b` of a laid out array is number `128 * a + b`, the padding past the samples. -/
theorem laidF_apply (v : FVec Ideal S100000 .f32) (a : Fin 800) (b : Fin 128) :
    laidF v (ix2 a b) = if h : a.val * 128 + b.val < 100000 then v (ix1 ⟨a.val * 128 + b.val, h⟩) else Ideal.ofBits .f32 0x40000000#32 := by
  have ha := a.isLt
  have hb := b.isLt
  unfold laidF
  rw [shapeCast_apply _ _ (ix2 a b) (ix1 (⟨a.val * 128 + b.val, by omega⟩ : Fin 102400)) ?_]
  · unfold joinF
    split
    · rename_i h
      refine concatenate_pair_apply_left (t := S102400) (s₁ := S100000) (s₂ := S2400) 0 _ _ _ _ rfl (ix1 ⟨a.val * 128 + b.val, h⟩) fun d => ?_
      have : d = 0 := Subsingleton.elim _ _
      subst this; rfl
    · refine (concatenate_pair_apply_right (t := S102400) (s₁ := S100000) (s₂ := S2400) 0 _ _ _ _ rfl rfl
        (ix1 (⟨a.val * 128 + b.val - 100000, by omega⟩ : Fin 2400)) (fun d hd => ?_) ?_).trans rfl
      · exact absurd (Subsingleton.elim _ _) hd
      · show a.val * 128 + b.val - 100000 + 100000 = a.val * 128 + b.val
        omega
  · rw [Shape.rowMajor_val_one, Shape.rowMajor_val_two]
    rfl

theorem laidI_apply (v : IVec S100000 32) (a : Fin 800) (b : Fin 128) :
    laidI v (ix2 a b) = if h : a.val * 128 + b.val < 100000 then v (ix1 ⟨a.val * 128 + b.val, h⟩) else 2147482624#32 := by
  have ha := a.isLt
  have hb := b.isLt
  unfold laidI
  rw [shapeCast_apply _ _ (ix2 a b) (ix1 (⟨a.val * 128 + b.val, by omega⟩ : Fin 102400)) ?_]
  · unfold joinI
    split
    · rename_i h
      refine concatenate_pair_apply_left (t := S102400) (s₁ := S100000) (s₂ := S2400) 0 _ _ _ _ rfl (ix1 ⟨a.val * 128 + b.val, h⟩) fun d => ?_
      have : d = 0 := Subsingleton.elim _ _
      subst this; rfl
    · refine (concatenate_pair_apply_right (t := S102400) (s₁ := S100000) (s₂ := S2400) 0 _ _ _ _ rfl rfl
        (ix1 (⟨a.val * 128 + b.val - 100000, by omega⟩ : Fin 2400)) (fun d hd => ?_) ?_).trans rfl
      · exact absurd (Subsingleton.elim _ _) hd
      · show a.val * 128 + b.val - 100000 + 100000 = a.val * 128 + b.val
        omega
  · rw [Shape.rowMajor_val_one, Shape.rowMajor_val_two]
    rfl

/-! ## The precondition -/

theorem bcast_infinity :
    Cert.Pre_below_infinity.S_.BroadcastsInDim Cert.Pre_below_infinity.S100000x1000 (![] : Fin 0 → Fin Cert.Pre_below_infinity.S100000x1000.rank) := by
  decide

instance facts : Cert.Pre_below_infinity.Facts where
  bcast_S_S100000x1000 := bcast_infinity

/-- Where the comparison with infinity holds, the number is below ∞. -/
theorem lt_of_cmpf {s : Shape} (A c : FVec Ideal s .f32) (j : s.Idx) (hc : c j = Ideal.ofBits .f32 0x7F800000#32)
    (h : cmpf .olt A c j = 1#1) : A j < (⊤ : EReal) := by
  have h1 : BitVec.ofBool (decide (A j < c j)) = 1#1 := h
  rw [hc, inf] at h1
  by_contra hn
  rw [decide_eq_false hn] at h1
  exact absurd h1 (by decide)

/-- Under the precondition every row is below ∞. -/
theorem below (A : FVec Ideal S100000x1000 .f32) (h : Cert.Pre_below_infinity.fn (F := Ideal) A = fun _ => 1#1) (n : Fin 100000) (k : Fin 1000) :
    row A n k < ⊤ :=
  lt_of_cmpf A _ (ix2 n k) rfl (congrFun h (ix2 n k))

/-! ## The two results -/

/-- Of logits below ∞ the reference's confidences are the kernel's, -/
theorem confs_agree (A : FVec Ideal S100000x1000 .f32) (h : Cert.Pre_below_infinity.fn (F := Ideal) A = fun _ => 1#1) :
    laidF (greatest (softmax A)) = fun j => confAll A (j 0) (j 1) := by
  funext j
  rw [Cert.Kernel2Ideal.Rows.eq_ix2 j]
  refine (laidF_apply _ (j 0) (j 1)).trans ?_
  unfold confAll
  refine dite_congr rfl (fun hlt => ?_) fun _ => rfl
  obtain ⟨m, hm⟩ := exists_first (row A ⟨(j 0).val * 128 + (j 1).val, hlt⟩) 0
  exact conf_agree (below A h _) hm

/-- and its predictions the kernel's. -/
theorem preds_agree (A : FVec Ideal S100000x1000 .f32) (h : Cert.Pre_below_infinity.fn (F := Ideal) A = fun _ => 1#1) :
    laidI (argmax (softmax A)) = fun j => predAll A (j 0) (j 1) := by
  funext j
  rw [Cert.Kernel2Ideal.Rows.eq_ix2 j]
  refine (laidI_apply _ (j 0) (j 1)).trans ?_
  unfold predAll
  refine dite_congr rfl (fun hlt => ?_) fun _ => rfl
  obtain ⟨m, hm⟩ := exists_first (row A ⟨(j 0).val * 128 + (j 1).val, hlt⟩) 0
  exact pred_agree (below A h _) hm

end Cert.Softmax

end
-- ==== Proof.RunIdeal.lean ====
/- The run of the program KernelIdeal: what one call of the kernel leaves in its result word (`outWord`, stated by the
   functions below, one per step of the selection), and the frame. For any values `F`. -/
module

public import proofs.«01_k».proof.Proof.Gen.KernelIdeal
public import proofs.«01_k».proof.Proof.Gen.KernelIdeal.Skeleton
public import proofs.«01_k».proof.Proof.Gen.KernelIdeal.Frame
public import Idealize.ShloMosaic.Adequacy
public import Idealize.ShloMosaic.Lib.Claim
public import Idealize.ShloMosaic.Lib.Pipeline.ValueKit.Geometry
public import Idealize.ShloMosaic.Lib.Pipeline.ValueKit.Basic
public import Idealize.ShloMosaic.Init

@[expose] public section

set_option maxRecDepth 16384

noncomputable section

namespace Cert.KernelIdeal.Sel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The value the kernel computes -/

/-- The key of each packed word: its upper 22 bits. -/
def keys (x : Vec F S800x128 .i32) : IVec S800x128 32 := andi x (broadcast S800x128 4294966272#32)

/-- The confidence of each packed word: its key read as a float. -/
def conf (x : Vec F S800x128 .i32) : FVec F S800x128 .f32 := bitcastToFloat .f32 (keys x)

/-- Per sample, 1 where the prediction in the packed word's lower ten bits is the label, else 0. -/
def hits (x y : Vec F S800x128 .i32) : FVec F S800x128 .f32 :=
  sitofp .f32 (extui 32 (cmpi .eq (andi x (broadcast S800x128 1023#32)) (shapeCast S800x128 y shapeCasts_S800x128_S800x128)) natLt_1_32)

/-- The sum of all entries. -/
def total (v : FVec F S800x128 .f32) : F .f32 :=
  extractAt ![0, 0, 0] (shapeCast S1x1x1 (multiReduction .add [1, 2] S1 (shapeCast S1x800x128 v shapeCasts_S800x128_S1x800x128)
    0x00000000#32 reduces_S1x800x128_S1 (.inl rfl) rfl) shapeCasts_S1_S1x1x1) inpos_S1x1x1_p0_0_0

/-- The entries where `p` holds, 0 elsewhere. -/
def keep (p : IVec S800x128 1) (v : FVec F S800x128 .f32) : FVec F S800x128 .f32 :=
  select p v (broadcast S800x128 (Scalar.ofBits .f32 0x00000000#32))

/-- 1 where `p` holds, 0 elsewhere. -/
def ind (p : IVec S800x128 1) : FVec F S800x128 .f32 := sitofp .f32 (extui 32 p natLt_1_32)

/-- Where the key is below `t`, -/
def below (k : IVec S800x128 32) (t : BitVec 32) : IVec S800x128 1 := cmpi .slt k (broadcast S800x128 t)
/-- and where it is `t`. -/
def tied (k : IVec S800x128 32) (t : BitVec 32) : IVec S800x128 1 := cmpi .eq k (broadcast S800x128 t)

/-- How many keys are below `t`, counted in words. -/
def count (k : IVec S800x128 32) (t : BitVec 32) : BitVec 32 :=
  extractAt ![0, 0, 0] (shapeCast S1x1x1 (multiReductionI .add [1, 2] S1 (shapeCast S1x800x128 (extui 32 (below k t) natLt_1_32)
    shapeCasts_S800x128_S1x800x128) 0#32 reduces_S1x800x128_S1 rfl) shapeCasts_S1_S1x1x1) inpos_S1x1x1_p0_0_0

/-- One step of the bit search for the key of rank `N`: bit `26 - j` is set if no more than `N` keys are below the word with it. -/
def trial (k : IVec S800x128 32) (N : BitVec 32) (j : Fin k0_t1_loop.trips) (t : BitVec 32) : BitVec 32 :=
  Scalar.select (Scalar.cmpi .sle (count k (Scalar.ori t (Scalar.shli 1#32 (Scalar.subi 26#32 (Scf.iv 0#32 1#32 j))))) N)
    (Scalar.ori t (Scalar.shli 1#32 (Scalar.subi 26#32 (Scf.iv 0#32 1#32 j)))) t

/-- Nine words. -/
abbrev Nine : Type :=
  BitVec 32 × BitVec 32 × BitVec 32 × BitVec 32 × BitVec 32 × BitVec 32 × BitVec 32 × BitVec 32 × BitVec 32

/-- The step for the nine bin boundaries at once. -/
def trials (k : IVec S800x128 32) (j : Fin k0_t1_loop.trips) : Nine → Nine
  | (a, b, c, d, e, f, g, h, i) => (trial k 10000#32 j a, trial k 20000#32 j b, trial k 30000#32 j c, trial k 40000#32 j d,
      trial k 50000#32 j e, trial k 60000#32 j f, trial k 70000#32 j g, trial k 80000#32 j h, trial k 90000#32 j i)

/-- The nine boundary keys, searched from the word of 2⁻¹⁵. -/
def bounds (k : IVec S800x128 32) : Nine :=
  Scf.fold (trials k) (939524096#32, 939524096#32, 939524096#32, 939524096#32, 939524096#32, 939524096#32, 939524096#32, 939524096#32, 939524096#32)

/-- `N` less the number of keys below `t`: how many of the samples at `t` belong to the first `N`. -/
def short (k : IVec S800x128 32) (N : F .f32) (t : BitVec 32) : F .f32 := Scalar.subf N (total (ind (below k t)))

/-- The confidences of the first `N` samples, summed: those below `t`, and the missing ones at `t`. -/
def confTo (x : Vec F S800x128 .i32) (N : F .f32) (t : BitVec 32) : F .f32 :=
  Scalar.addf (total (keep (below (keys x) t) (conf x))) (Scalar.mulf (short (keys x) N t) (Scalar.ofBits .f32 t))

/-- The hits of the first `N` samples, summed: those below `t`, and of those at `t` their part. -/
def hitsTo (x y : Vec F S800x128 .i32) (N : F .f32) (t : BitVec 32) : F .f32 :=
  Scalar.addf (total (keep (below (keys x) t) (hits x y)))
    (Scalar.divf (Scalar.mulf (short (keys x) N t) (total (keep (tied (keys x) t) (hits x y)))) (total (ind (tied (keys x) t))))

/-- A bin's gap, from the sums up to its end and up to its start. -/
def gap (c' h' c h : F .f32) : F .f32 := Scalar.absf (Scalar.subf (Scalar.subf c' c) (Scalar.subf h' h))

/-- The result from the sums at the nine boundaries and at the end. -/
def finish (c h : Fin 10 → F .f32) : F .f32 :=
  Scalar.divf (Scalar.addf (Scalar.addf (Scalar.addf (Scalar.addf (Scalar.addf (Scalar.addf (Scalar.addf (Scalar.addf (Scalar.addf (Scalar.addf
    (Scalar.ofBits .f32 0x00000000#32)
    (gap (c 0) (h 0) (Scalar.ofBits .f32 0x00000000#32) (Scalar.ofBits .f32 0x00000000#32)))
    (gap (c 1) (h 1) (c 0) (h 0))) (gap (c 2) (h 2) (c 1) (h 1))) (gap (c 3) (h 3) (c 2) (h 2)))
    (gap (c 4) (h 4) (c 3) (h 3))) (gap (c 5) (h 5) (c 4) (h 4))) (gap (c 6) (h 6) (c 5) (h 5)))
    (gap (c 7) (h 7) (c 6) (h 6))) (gap (c 8) (h 8) (c 7) (h 7))) (gap (c 9) (h 9) (c 8) (h 8))) (Scalar.ofBits .f32 0x47C35000#32)

/-- The sum of all confidences whose key is below the word of 2. -/
def confAll (x : Vec F S800x128 .i32) : F .f32 := total (keep (below (keys x) 1073741824#32) (conf x))

/-- The confidence sums the result is made of, from the boundary keys, -/
def confSums (x : Vec F S800x128 .i32) (t : Nine) : Fin 10 → F .f32 :=
  ![confTo x (Scalar.ofBits .f32 0x461C4000#32) t.1, confTo x (Scalar.ofBits .f32 0x469C4000#32) t.2.1,
    confTo x (Scalar.ofBits .f32 0x46EA6000#32) t.2.2.1, confTo x (Scalar.ofBits .f32 0x471C4000#32) t.2.2.2.1,
    confTo x (Scalar.ofBits .f32 0x47435000#32) t.2.2.2.2.1, confTo x (Scalar.ofBits .f32 0x476A6000#32) t.2.2.2.2.2.1,
    confTo x (Scalar.ofBits .f32 0x4788B800#32) t.2.2.2.2.2.2.1, confTo x (Scalar.ofBits .f32 0x479C4000#32) t.2.2.2.2.2.2.2.1,
    confTo x (Scalar.ofBits .f32 0x47AFC800#32) t.2.2.2.2.2.2.2.2, confAll x]

/-- and the sums of hits. -/
def hitSums (x y : Vec F S800x128 .i32) (t : Nine) : Fin 10 → F .f32 :=
  ![hitsTo x y (Scalar.ofBits .f32 0x461C4000#32) t.1, hitsTo x y (Scalar.ofBits .f32 0x469C4000#32) t.2.1,
    hitsTo x y (Scalar.ofBits .f32 0x46EA6000#32) t.2.2.1, hitsTo x y (Scalar.ofBits .f32 0x471C4000#32) t.2.2.2.1,
    hitsTo x y (Scalar.ofBits .f32 0x47435000#32) t.2.2.2.2.1, hitsTo x y (Scalar.ofBits .f32 0x476A6000#32) t.2.2.2.2.2.1,
    hitsTo x y (Scalar.ofBits .f32 0x4788B800#32) t.2.2.2.2.2.2.1, hitsTo x y (Scalar.ofBits .f32 0x479C4000#32) t.2.2.2.2.2.2.2.1,
    hitsTo x y (Scalar.ofBits .f32 0x47AFC800#32) t.2.2.2.2.2.2.2.2, total (hits x y)]

/-- The word the kernel stores, from the packed words and the labels. -/
def outWord (x y : Vec F S800x128 .i32) : F .f32 :=
  finish (confSums x (bounds (keys x))) (hitSums x y (bounds (keys x)))

/-! ## The body's triple -/

/-- The rectangle of each load: the whole block. -/
abbrev rIn : Rect S800x128 := Rect.unit (s := S800x128) ![0, 0] S800x128.size inb_S800x128_S800x128_0_0
/-- The rectangle of the store: the one word. -/
abbrev rOut : Rect S1x1 := Rect.unit (s := S1x1) ![0, 0] S1x1.size inb_S1x1_S1x1_0_0

/-- What the body leaves in the result's buffer. -/
def outBlk (x0 x1 : Vec F S800x128 .i32) : Vec F S1x1 .f32 :=
  View.canon [⟨rOut, fun _ => outWord (View.ld x0 rIn) (View.ld x1 rIn)⟩]

/-- The one store covers the result's buffer. -/
theorem covers (p0 : Vec F S1x1 .f32) (y : S1x1.Idx) :
    ∃ pc ∈ ([⟨rOut, p0⟩] : List (View.Piece (Elt F) S1x1 .f32)), y ∈ pc.1.set :=
  View.cover_of_tiled [⟨rOut, p0⟩] S1x1.size (by rfl) y

/-- One trip of the loop touches no memory: it returns the nine words of `trials`. -/
theorem trip_eq (arg0 : Memref sig .tc .vmem S800x128 .i32) (harg0 : arg0.IsWhole)
    (arg1 : Memref sig .tc .vmem S800x128 .i32) (harg1 : arg1.IsWhole) (arg2 : Memref sig .tc .smem S1x1 .f32) (harg2 : arg2.IsWhole)
    (x : Vec F S800x128 .i32) (j : Fin k0_t1_loop.trips) (a : Nine) :
    k0_t1_body arg0 harg0 arg1 harg1 arg2 harg2 x j a = .ret (trials (keys x) j a) := rfl

/-- So the loop is the return of the nine boundary keys. -/
theorem loop_eq (arg0 : Memref sig .tc .vmem S800x128 .i32) (harg0 : arg0.IsWhole)
    (arg1 : Memref sig .tc .vmem S800x128 .i32) (harg1 : arg1.IsWhole) (arg2 : Memref sig .tc .smem S1x1 .f32) (harg2 : arg2.IsWhole)
    (x : Vec F S800x128 .i32) :
    Scf.Loop.for k0_t1_loop k0_t1_ok
      (939524096#32, 939524096#32, 939524096#32, 939524096#32, 939524096#32, 939524096#32, 939524096#32, 939524096#32, 939524096#32)
      (k0_t1_body arg0 harg0 arg1 harg1 arg2 harg2 x) = .ret (bounds (keys x)) :=
  Scf.for_pure _ _ _ _ _ _ (trials (keys x)) (trip_eq arg0 harg0 arg1 harg1 arg2 harg2 x)

set_option maxHeartbeats 4000000 in
/-- The body, on the two inputs' blocks and any result buffer, ends with the inputs as they were and the result at `outBlk`. -/
theorem sound_kernel (c : Dev nD) (E : Set ℕ) (arg0 : Memref sig .tc .vmem S800x128 .i32) (harg0 : arg0.IsWhole)
    (arg1 : Memref sig .tc .vmem S800x128 .i32) (harg1 : arg1.IsWhole) (arg2 : Memref sig .tc .smem S1x1 .f32) (harg2 : arg2.IsWhole)
    (x0 : Vec F S800x128 .i32) (x1 : Vec F S800x128 .i32) (K : PUnit → sProp (MT nD τ sig Unit (Elt F) ℕ (UR sig nD τ) ℕ)) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (outBlk x0 x1)) -∗ K ⟨⟩))
      ⊢ wp frame (wpE (defs₀ (F := F)) Variants.none c none) E (cc0__stage2_body arg0 harg0 arg1 harg1 arg2 harg2) K := by
  simp only [cc0__stage2_body_eq_skeleton]; unfold cc0__stage2_body_skel
  unfold owns
  iintro ⟨⟨%f0, %hf0, H0⟩, ⟨%f1, %hf1, H1⟩, ⟨%d2, %f2, -, H2⟩, Hk⟩
  subst hf0 hf1
  sl_exec
  rw [loop_eq]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

variable (m : (ℓ : Loc nD τ sig) → Buf (Elt F) ℓ) (ρ : Dev nD → PrngReg)

local notation "𝕄" => MT nD τ sig Unit (Elt F) ℕ (UR sig nD τ) ℕ

/-! ## The launch -/

/-- The one pipeline's data on core `c`: the arrays as the region finds them; after the body the inputs at their blocks
    and the result at `outBlk` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body between them, by `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl, after0, after1, after2]
  iintro ⟨HΦ, Ho, ⟨%d0, H0⟩, ⟨%d1, H1⟩, ⟨%d2, H2⟩⟩
  iapply (sound_kernel c Set.univ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with the pipeline's arrays at what the data say, the later host line's array at what it computes from
    them, every other array as before, and every semaphore counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

/-! ## The result -/

/-- The labels, padded with -1 and laid out as the packed words. -/
def padded (y : IVec S100000 32) : IVec S800x128 32 :=
  shapeCast S800x128 (concatenate S102400 0 [⟨S100000, y⟩, ⟨S2400, broadcastInDim S2400 ![] bcast_S_S2400 (constantI S_ 32 4294967295#32)⟩]
    concatenates_S100000_S2400_S102400_d0) shapeCasts_S102400_S800x128

/-- The region finds its second input at the padded labels. -/
theorem V_padded (c : Dev nD) : V m c main_v2 = padded (m ((c : Thread nD τ).loc main_arg1)) := by
  unfold V V0
  simp only [hostOps0, List.flatten_cons, List.flatten_nil, List.append_nil]
  after_results_simp <;> rfl

theorem iblk0 (c : Dev nD) : iblk m c 0 t0_0 = m ((c : Thread nD τ).loc main_arg0) := by
  rw [← V_main_arg0 m c]; unfold iblk; funext i; blk_simp
  congr 1; funext a; apply Fin.ext; blk_simp; fin_cases a <;> simp [Window.index]

theorem iblk1 (c : Dev nD) : iblk m c 1 t0_0 = padded (m ((c : Thread nD τ).loc main_arg1)) := by
  rw [← V_padded m c]; unfold iblk; funext i; blk_simp
  congr 1; funext a; apply Fin.ext; blk_simp; fin_cases a <;> simp [Window.index]

/-- The result's block holds the one word. -/
theorem outBlk_apply (x0 x1 : Vec F S800x128 .i32) (j : S1x1.Idx) : outBlk x0 x1 j = outWord x0 x1 := by
  unfold outBlk
  rw [View.canon_cons_unit_lit _ _ _ (by decide), View.ld_unit_lit _ _ (by decide), View.ld_unit_lit _ _ (by decide)]

/-- The result array after the call. -/
theorem final (c : Dev nD) : (dats m 0 c).arrAt 2 cfg0.N
    = fun _ => outWord (m ((c : Thread nD τ).loc main_arg0)) (padded (m ((c : Thread nD τ).loc main_arg1))) := by
  refine (dats m 0 c).arrAt_eq_of_after_last 2 t0_0 (by decide +kernel) _ fun j => ?_
  rw [after2]
  exact (outBlk_apply _ _ _).trans (by rw [iblk0, iblk1])

/-- The host's last line drops the unit axes: @main's result is the word. -/
theorem result (c : Dev nD) : Pipeline.afterTail₀ cfgs (dats m) 0 (V0 m) [hostOps1] c main_v4
    = fun _ => outWord (m ((c : Thread nD τ).loc main_arg0)) (padded (m ((c : Thread nD τ).loc main_arg1))) := by
  unfold Pipeline.afterTail₀
  simp only [hostOps1, List.flatten_cons, List.flatten_nil, List.append_nil]
  after_results_simp
  have h := Pipeline.withArrays_arr (τ := τ) spec0 launch0.win.arr_inj c (V0 m c) (fun w => (dats m 0 c).arrAt w cfg0.N) 2
  rw [final] at h
  funext i
  exact congrFun h _

end Cert.KernelIdeal.Sel

end
-- ==== Proof.Search.lean ====
/- The search for a key by its rank, on natural numbers, and the sums over the first entries of a sorted list.
   Nothing here speaks of the programs. -/
module

public import Idealize.ShloMosaic.PureOps.Ideal

@[expose] public section

noncomputable section

namespace Cert.Search

open Finset

/-- How many entries of `κ` are below `t`. -/
def cntLt {ι : Type} [Fintype ι] (κ : ι → ℕ) (t : ℕ) : ℕ := (univ.filter fun i => κ i < t).card

/-- One step of the bit search, on numbers: `w` is added to `t` if no more than `N` entries are below the sum. -/
def probe (cnt : ℕ → ℕ) (N w t : ℕ) : ℕ := if cnt (t + w) ≤ N then t + w else t

/-- A step halves the interval that holds the rank: with at most `N` entries below `t` and more than `N` below
    `t + 2w`, the step's result `t'` has at most `N` entries below it and more than `N` below `t' + w`. -/
theorem probe_spec (cnt : ℕ → ℕ) (N w t : ℕ) (h₁ : cnt t ≤ N) (h₂ : N < cnt (t + 2 * w)) :
    cnt (probe cnt N w t) ≤ N ∧ N < cnt (probe cnt N w t + w) := by
  unfold probe
  split
  · rename_i h
    exact ⟨h, by rwa [add_assoc, ← two_mul]⟩
  · rename_i h
    exact ⟨h₁, not_le.1 h⟩

/-- A step's result lies in the interval. -/
theorem probe_bounds (cnt : ℕ → ℕ) (N w t : ℕ) : t ≤ probe cnt N w t ∧ probe cnt N w t + w ≤ t + 2 * w := by
  unfold probe
  split <;> omega

/-- A step keeps the multiples of `w`. -/
theorem probe_dvd (cnt : ℕ → ℕ) (N w t : ℕ) (h : w ∣ t) : w ∣ probe cnt N w t := by
  unfold probe
  split
  · exact Dvd.dvd.add h (dvd_refl w)
  · exact h

section Sorted

variable {n : ℕ}

/-- In a nondecreasing list, an entry is below `t` exactly if its position is less than the number of entries below `t`. -/
theorem lt_iff_of_monotone (s : Fin n → ℕ) (hs : Monotone s) (t : ℕ) (k : Fin n) : s k < t ↔ k.val < cntLt s t := by
  unfold cntLt
  constructor
  · intro h
    have hsub : Finset.Iic k ⊆ univ.filter fun i => s i < t := fun i hi =>
      mem_filter.2 ⟨mem_univ i, lt_of_le_of_lt (hs (Finset.mem_Iic.1 hi)) h⟩
    have hc := card_le_card hsub
    rw [Fin.card_Iic] at hc
    omega
  · intro h
    by_contra hlt
    have hsub : (univ.filter fun i => s i < t) ⊆ Finset.Iio k := fun i hi => by
      rw [Finset.mem_Iio]
      by_contra hki
      exact hlt (lt_of_le_of_lt (hs (not_lt.1 hki)) (mem_filter.1 hi).2)
    have hc := card_le_card hsub
    rw [Fin.card_Iio] at hc
    omega

/-- Reordering does not change how many entries are below `t`. -/
theorem cntLt_comp (κ : Fin n → ℕ) (σ : Equiv.Perm (Fin n)) (t : ℕ) : cntLt (κ ∘ σ) t = cntLt κ t := by
  unfold cntLt
  refine card_bij (fun i _ => σ i) ?_ ?_ ?_
  · intro i hi; simpa using hi
  · intro i _ j _ h; exact σ.injective h
  · intro j hj
    exact ⟨σ.symm j, by simpa using hj, by simp⟩

/-- The entry at position `N` of the sorted list is `t`, if at most `N` entries are below `t` and more than `N` are at most `t`. -/
theorem sorted_at (κ : Fin n → ℕ) (σ : Equiv.Perm (Fin n)) (hs : Monotone (κ ∘ σ)) (t : ℕ) (k : Fin n)
    (h₁ : cntLt κ t ≤ k.val) (h₂ : k.val < cntLt κ (t + 1)) : κ (σ k) = t := by
  have a := (lt_iff_of_monotone _ hs t k).not
  have b := lt_iff_of_monotone _ hs (t + 1) k
  rw [cntLt_comp] at a b
  have a' := a.2 (by omega)
  have b' := b.2 h₂
  simp only [Function.comp_apply] at a' b'
  omega

/-- A sum over the entries below `t` is the sum of the first ones of the sorted list. -/
theorem sum_below (κ : Fin n → ℕ) (σ : Equiv.Perm (Fin n)) (hs : Monotone (κ ∘ σ)) (t : ℕ) (f : Fin n → ℝ) :
    ∑ i, (if κ i < t then f i else 0) = ∑ k : Fin n, if k.val < cntLt κ t then f (σ k) else 0 := by
  rw [← Equiv.sum_comp σ]
  refine Finset.sum_congr rfl fun k _ => ?_
  have b := lt_iff_of_monotone _ hs t k
  rw [cntLt_comp] at b
  simp only [Function.comp_apply] at b
  simp only [b]

/-- The sum of the first `N` entries of the sorted list. -/
def prefixSum (σ : Equiv.Perm (Fin n)) (f : Fin n → ℝ) (N : ℕ) : ℝ := ∑ k : Fin n, if k.val < N then f (σ k) else 0

/-- How many positions lie between two numbers at most the length. -/
theorem card_between (L N : ℕ) (hL : L ≤ N) (hN : N ≤ n) :
    (∑ k : Fin n, if L ≤ k.val ∧ k.val < N then (1 : ℝ) else 0) = (N : ℝ) - L := by
  have e := Fin.sum_univ_eq_sum_range (fun k => if L ≤ k ∧ k < N then (1 : ℝ) else 0) n
  rw [e, ← Finset.sum_filter]
  have : (Finset.range n).filter (fun k => L ≤ k ∧ k < N) = Finset.Ico L N := by
    ext k; simp only [mem_filter, mem_range, mem_Ico]; omega
  rw [this, Finset.sum_const, Nat.card_Ico, nsmul_eq_mul, mul_one, Nat.cast_sub hL]

/-- THE SUM UP TO A RANK. With `t` the entry of rank `N`, the first `N` entries of the sorted list sum to the entries below
    `t` and, `N` less their number times, the value `v` of every entry at `t`. -/
theorem prefixSum_eq (κ : Fin n → ℕ) (σ : Equiv.Perm (Fin n)) (hs : Monotone (κ ∘ σ)) (t N : ℕ) (hN : N ≤ n) (f : Fin n → ℝ) (v : ℝ)
    (h₁ : cntLt κ t ≤ N) (h₂ : N < cntLt κ (t + 1)) (hv : cntLt κ t < N → ∀ i, κ i = t → f i = v) :
    prefixSum σ f N = ∑ i, (if κ i < t then f i else 0) + ((N : ℝ) - cntLt κ t) * v := by
  rw [sum_below κ σ hs, ← card_between (n := n) _ _ h₁ hN, Finset.sum_mul, ← Finset.sum_add_distrib]
  unfold prefixSum
  refine Finset.sum_congr rfl fun k _ => ?_
  by_cases hk : k.val < cntLt κ t
  · rw [if_pos (by omega), if_pos hk, if_neg (by omega)]; ring
  · by_cases hk' : k.val < N
    · rw [if_pos hk', if_neg hk, if_pos (by omega), hv (by omega) _ (sorted_at κ σ hs t k (by omega) (by omega))]; ring
    · rw [if_neg hk', if_neg hk, if_neg (by omega)]; ring

/-- Entries at `t` that all have the value `v` have the mean `v`. -/
theorem mean_of_const (κ : Fin n → ℕ) (t : ℕ) (f : Fin n → ℝ) (v : ℝ) (hpos : (univ.filter fun i => κ i = t).Nonempty)
    (hv : ∀ i, κ i = t → f i = v) :
    (∑ i, if κ i = t then f i else 0) / (∑ i, if κ i = t then (1 : ℝ) else 0) = v := by
  have e : (∑ i, if κ i = t then f i else 0) = v * ∑ i, if κ i = t then (1 : ℝ) else 0 := by
    rw [Finset.mul_sum]
    refine Finset.sum_congr rfl fun i _ => ?_
    split
    · rename_i h; rw [hv i h, mul_one]
    · rw [mul_zero]
  have hne : (∑ i, if κ i = t then (1 : ℝ) else 0) ≠ 0 := by
    rw [← Finset.sum_filter, Finset.sum_const, nsmul_eq_mul, mul_one]
    exact_mod_cast (Finset.card_pos.2 hpos).ne'
  rw [e, mul_div_assoc, div_self hne, mul_one]

/-- Some entry is `t`, if more entries are at most `t` than below it. -/
theorem exists_at (κ : Fin n → ℕ) (t : ℕ) (h : cntLt κ t < cntLt κ (t + 1)) : (univ.filter fun i => κ i = t).Nonempty := by
  by_contra hne
  rw [Finset.not_nonempty_iff_eq_empty, Finset.filter_eq_empty_iff] at hne
  refine absurd h (not_lt.2 (card_le_card fun i hi => ?_))
  have h1 := (mem_filter.1 hi).2
  have h2 := hne (mem_univ i)
  exact mem_filter.2 ⟨mem_univ i, by omega⟩

/-- The sum of the entries of positions `[A, B)` of the sorted list is a difference of two sums of first entries. -/
theorem prefixSum_sub (σ : Equiv.Perm (Fin n)) (f : Fin n → ℝ) (A B : ℕ) (h : A ≤ B) :
    prefixSum σ f B - prefixSum σ f A = ∑ k : Fin n, if A ≤ k.val ∧ k.val < B then f (σ k) else 0 := by
  unfold prefixSum
  rw [← Finset.sum_sub_distrib]
  refine Finset.sum_congr rfl fun k _ => ?_
  by_cases h1 : k.val < A
  · rw [if_pos (by omega), if_pos h1, if_neg (by omega), sub_self]
  · by_cases h2 : k.val < B
    · rw [if_pos h2, if_neg h1, if_pos (by omega), sub_zero]
    · rw [if_neg h2, if_neg h1, if_neg (by omega), sub_self]

end Sorted

end Cert.Search

end
-- ==== Proof.Words.lean ====
/- The words of the selection: f32 patterns of finite nonnegative values, ordered as the values are; the bit search on
   words, step by step; counts kept in words. Nothing here speaks of the programs. -/
module

public import proofs.«01_k».proof.Proof.Search
public import Idealize.ShloMosaic.PureOps
public import Idealize.ShloMosaic.Lib.TotalOrder

@[expose] public section

noncomputable section

namespace Cert.Words

open Idealize.ShloMosaic

/-- The real number that a finite nonnegative f32 pattern, given as a number, denotes. -/
def real (k : ℕ) : ℝ := (TotalOrder.sig 23 (k / 2 ^ 23 % 2 ^ 8) (k % 2 ^ 23) : ℝ) * TotalOrder.ulp 8 23

/-- At the ideal values a pattern below infinity's denotes that real number. -/
theorem ofBits_eq (w : BitVec 32) (h : w.toNat < 0x7F800000) : Ideal.ofBits .f32 w = ((real w.toNat : ℝ) : EReal) := by
  have he : TotalOrder.expo 8 23 w = w.toNat / 2 ^ 23 % 2 ^ 8 := TotalOrder.expo_eq 8 23 w
  have hf : TotalOrder.frac 23 w = w.toNat % 2 ^ 23 := TotalOrder.frac_eq 23 w
  have hx : TotalOrder.expo 8 23 w ≠ 2 ^ 8 - 1 := by rw [he]; omega
  have hs : TotalOrder.sign 8 23 w = false := by
    have := TotalOrder.sign_eq_msb (e := 8) (m := 23) w
    rw [this, BitVec.msb_eq_decide]
    simp; omega
  show Ideal.ieee 8 23 w = _
  rw [TotalOrder.ieee_eq_signed_absVal (fun hn => hx hn.1), hs, if_neg (by decide)]
  unfold TotalOrder.absVal
  rw [if_neg hx, he, hf]
  rfl

/-- Smaller patterns denote smaller numbers. -/
theorem real_lt {k k' : ℕ} (h : k < k') (h' : k' < 0x7F800000) : real k < real k' := by
  unfold real
  refine mul_lt_mul_of_pos_right ?_ (TotalOrder.ulp_pos 8 23)
  exact_mod_cast TotalOrder.sig_lt_sig (Nat.mod_lt _ (by norm_num)) (Nat.mod_lt _ (by norm_num)) (by omega)

/-- The order of the numbers is the order of the patterns. -/
theorem real_lt_iff {k k' : ℕ} (h : k < 0x7F800000) (h' : k' < 0x7F800000) : real k < real k' ↔ k < k' := by
  refine ⟨fun hlt => ?_, fun hlt => real_lt hlt h'⟩
  by_contra hn
  rcases Nat.eq_or_lt_of_le (not_lt.1 hn) with e | e
  · subst e; exact lt_irrefl _ hlt
  · exact lt_asymm hlt (real_lt e h)

/-- Signed comparison of nonnegative words. -/
theorem slt_iff (a b : BitVec 32) (ha : a.toNat < 2 ^ 31) (hb : b.toNat < 2 ^ 31) : IntOp.cmpi .slt a b = 1#1 ↔ a.toNat < b.toNat := by
  have h : a.slt b = decide (a.toNat < b.toNat) := by
    rw [BitVec.slt_eq_decide, BitVec.toInt_eq_toNat_of_lt (by omega), BitVec.toInt_eq_toNat_of_lt (by omega)]
    simp
  show BitVec.ofBool (a.slt b) = 1#1 ↔ _
  rw [h]
  by_cases hlt : a.toNat < b.toNat <;> simp [hlt]

theorem sle_iff (a b : BitVec 32) (ha : a.toNat < 2 ^ 31) (hb : b.toNat < 2 ^ 31) : IntOp.cmpi .sle a b = 1#1 ↔ a.toNat ≤ b.toNat := by
  have h : a.sle b = decide (a.toNat ≤ b.toNat) := by
    rw [BitVec.sle_eq_decide, BitVec.toInt_eq_toNat_of_lt (by omega), BitVec.toInt_eq_toNat_of_lt (by omega)]
    simp
  show BitVec.ofBool (a.sle b) = 1#1 ↔ _
  rw [h]
  by_cases hlt : a.toNat ≤ b.toNat <;> simp [hlt]

theorem eq_iff (a b : BitVec 32) : IntOp.cmpi .eq a b = 1#1 ↔ a = b := by
  show BitVec.ofBool (a == b) = 1#1 ↔ _
  by_cases h : a = b
  · simp [h]
  · simp [beq_eq_false_iff_ne.2 h, h]

/-- A one-bit word that is not 1 is 0. -/
theorem bit_eq_zero {b : BitVec 1} (h : b ≠ 1#1) : b = 0#1 := by
  revert h; revert b; decide

/-- Setting a bit of a word whose bits from there down are clear adds the bit's weight. -/
theorem or_bit (t : BitVec 32) (i : ℕ) (hi : i < 31) (hd : 2 ^ (i + 1) ∣ t.toNat) (hlt : t.toNat + 2 ^ i < 2 ^ 32) :
    (t ||| BitVec.ofNat 32 (2 ^ i)).toNat = t.toNat + 2 ^ i := by
  obtain ⟨a, ha⟩ := hd
  have hi' : 2 ^ i < 2 ^ 32 := Nat.pow_lt_pow_right (by decide) (by omega)
  rw [BitVec.toNat_or, BitVec.toNat_ofNat, Nat.mod_eq_of_lt hi', ha,
    Nat.two_pow_add_eq_or_of_lt (Nat.pow_lt_pow_right (by decide) (by omega)) a]

/-- The key of a word: the word with its low ten bits cleared. -/
theorem toNat_key (x : BitVec 32) : (x &&& 4294966272#32).toNat = x.toNat / 1024 * 1024 := by
  have e : x &&& 4294966272#32 = (x >>> 10) <<< 10 := by
    ext i hi
    simp only [BitVec.getElem_and, BitVec.getElem_shiftLeft, BitVec.getLsbD_ushiftRight]
    have h2 : (4294966272#32 : BitVec 32)[i] = decide (10 ≤ i) := by revert hi; revert i; decide
    rw [h2]
    by_cases h : i < 10
    · simp [h]
    · simp [h, show 10 ≤ i by omega, show 10 + (i - 10) = i by omega, BitVec.getLsbD_eq_getElem hi]
  have := x.isLt
  rw [e, BitVec.toNat_shiftLeft, BitVec.toNat_ushiftRight, Nat.shiftLeft_eq, Nat.shiftRight_eq_div_pow]
  exact Nat.mod_eq_of_lt (by omega)

end Cert.Words

end
-- ==== Proof.Reads.lean ====
/- What the kernel's reductions compute at the ideal values, and what its bit search finds, from the packed words. -/
module

public import proofs.«01_k».proof.Proof.RunIdeal
public import proofs.«01_k».proof.Proof.Words
public import Idealize.ShloMosaic.PureOps.Reduce
public import Idealize.ShloMosaic.Lib.IndicatorCount

@[expose] public section

set_option maxRecDepth 16384

noncomputable section

namespace Cert.KernelIdeal.Sel

open Cert.KernelIdeal Cert.KernelIdeal.Gen Cert.Words Cert.Search
open Idealize.ShloMosaic

/-! ## Sums and counts over the block -/

/-- There is one index of a rank-1 shape of one entry. -/
theorem idx_S1 (i j : S1.Idx) : i = j := by
  funext a
  apply Fin.ext
  have h1 := (i a).isLt; have h2 := (j a).isLt
  have hs : S1.size a = 1 := by fin_cases a; rfl
  omega

/-- Everything reduces to the one index. -/
theorem fiber_univ {s : Shape} {axes : List (Fin s.rank)} (h : s.Reduces axes S1) (j : S1.Idx) :
    (Finset.univ.filter fun i => h.drop i = j) = Finset.univ :=
  Finset.filter_true_of_mem fun _ _ => idx_S1 _ _

/-- The sum of all entries is their sum. -/
theorem total_eq (v : FVec Ideal S800x128 .f32) : total v = ∑ j, v j := by
  show Ideal.reduceAdd reduces_S1x800x128_S1 (shapeCast S1x800x128 v shapeCasts_S800x128_S1x800x128) _ = _
  unfold Ideal.reduceAdd
  rw [fiber_univ]
  exact Equiv.sum_comp (Shape.reshapeEquiv shapeCasts_S800x128_S1x800x128) v

/-- The sum of entries that are real numbers is the sum of the numbers. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word that counts the keys below `t`. -/
theorem count_eq (k : IVec S800x128 32) (t : BitVec 32) :
    count k t = BitVec.ofNat 32 (Finset.univ.filter fun j => IntOp.cmpi .slt (k j) t = 1#1).card := by
  unfold count extractAt shapeCast
  refine (multiReductionI_eq_fold (t := S1) .add _ _ _ _ _).trans ?_
  rw [fiber_univ]
  refine (IndicatorCount.fold_addi_setWidth_eq_card (shapeCast S1x800x128 (below k t) shapeCasts_S800x128_S1x800x128)
    Finset.univ).trans ?_
  congr 1
  refine Finset.card_bij (fun i _ => Shape.reshapeEquiv shapeCasts_S800x128_S1x800x128 i) ?_ ?_ ?_
  · intro i hi; exact Finset.mem_filter.2 ⟨Finset.mem_univ _, (Finset.mem_filter.1 hi).2⟩
  · intro i _ j _ h; exact (Shape.reshapeEquiv shapeCasts_S800x128_S1x800x128).injective h
  · intro j hj
    refine ⟨(Shape.reshapeEquiv shapeCasts_S800x128_S1x800x128).symm j, Finset.mem_filter.2 ⟨Finset.mem_univ _, ?_⟩, by simp⟩
    show below k t (Shape.reshapeEquiv _ ((Shape.reshapeEquiv _).symm j)) = 1#1
    rw [Equiv.apply_symm_apply]
    exact (Finset.mem_filter.1 hj).2

/-! ## The samples among the words -/

/-- How many samples there are. -/
abbrev n : ℕ := 100000

/-- Where the block holds sample `i`: row by row. -/
def pos (i : Fin n) : S800x128.Idx := fun a =>
  match a with
  | 0 => (⟨i.val / 128, by have := i.isLt; unfold n at this; omega⟩ : Fin 800)
  | 1 => (⟨i.val % 128, by omega⟩ : Fin 128)

theorem pos_zero (i : Fin n) : (pos i 0).val = i.val / 128 := rfl
theorem pos_one (i : Fin n) : (pos i 1).val = i.val % 128 := rfl

theorem pos_injective : Function.Injective pos := fun i j h => by
  have h0 := congrArg Fin.val (congrFun h 0)
  have h1 := congrArg Fin.val (congrFun h 1)
  simp only [pos_zero, pos_one] at h0 h1
  apply Fin.ext
  omega

/-- What the first call leaves in the packed words: a sample's word lies between the words of 2⁻¹⁵ and of 2, every other word is the padding. -/
structure Packed (x : IVec S800x128 32) : Prop where
  low : ∀ i, 0x38000000 ≤ (x (pos i)).toNat
  high : ∀ i, (x (pos i)).toNat < 0x40000000
  pad : ∀ j, (∀ i, pos i ≠ j) → x j = 0x7FFFFC00#32

/-- A sample's key as a number. -/
def key (x : IVec S800x128 32) (i : Fin n) : ℕ := (x (pos i)).toNat / 1024 * 1024

variable {x : IVec S800x128 32}

theorem toNat_keys (x : IVec S800x128 32) (i : Fin n) : (keys (F := Ideal) x (pos i)).toNat = key x i := toNat_key _

theorem key_low (hx : Packed x) (i : Fin n) : 0x38000000 ≤ key x i := by have := hx.low i; unfold key; omega
theorem key_high (hx : Packed x) (i : Fin n) : key x i < 0x40000000 := by have := hx.high i; unfold key; omega

theorem keys_pad (hx : Packed x) (j : S800x128.Idx) (hj : ∀ i, pos i ≠ j) : keys (F := Ideal) x j = 0x7FFFFC00#32 := by
  show x j &&& 4294966272#32 = _
  rw [hx.pad j hj]
  decide

/-- A sum over the block of what vanishes at the padding is a sum over the samples. -/
theorem sum_samples (f : S800x128.Idx → ℝ) (hf : ∀ j, (∀ i, pos i ≠ j) → f j = 0) : ∑ j, f j = ∑ i, f (pos i) := by
  refine (Finset.sum_of_injOn pos (fun i _ j _ h => pos_injective h) (fun _ _ => Finset.mem_coe.2 (Finset.mem_univ _)) ?_ fun _ _ => rfl).symm
  intro j _ hj
  exact hf j fun i h => hj ⟨i, Finset.mem_coe.2 (Finset.mem_univ _), h⟩

/-- No key of the padding is below a word of the search. -/
theorem pad_not_below (hx : Packed x) (t : BitVec 32) (ht : t.toNat ≤ 0x40000000) (j : S800x128.Idx) (hj : ∀ i, pos i ≠ j) :
    ¬ IntOp.cmpi .slt (keys (F := Ideal) x j) t = 1#1 := by
  rw [keys_pad hx j hj, slt_iff _ _ (by decide) (by omega), show (0x7FFFFC00#32 : BitVec 32).toNat = 0x7FFFFC00 from rfl]
  omega

theorem below_iff (hx : Packed x) (t : BitVec 32) (ht : t.toNat ≤ 0x40000000) (i : Fin n) :
    IntOp.cmpi .slt (keys (F := Ideal) x (pos i)) t = 1#1 ↔ key x i < t.toNat := by
  have := key_high hx i
  rw [slt_iff _ _ (by rw [toNat_keys]; omega) (by omega), toNat_keys]

/-- What holds of no index outside the image holds as often over the indices as over what they are the image of. -/
theorem card_image {ι κ : Type} [Fintype ι] [Fintype κ] (e : ι → κ) (he : Function.Injective e) (p : κ → Prop) (q : ι → Prop)
    [DecidablePred p] [DecidablePred q] (hpq : ∀ i, p (e i) ↔ q i) (hn : ∀ j, (∀ i, e i ≠ j) → ¬ p j) :
    (Finset.univ.filter p).card = (Finset.univ.filter q).card := by
  symm
  refine Finset.card_bij (fun i _ => e i) ?_ (fun i _ j _ h => he h) ?_
  · intro i hi
    exact Finset.mem_filter.2 ⟨Finset.mem_univ _, (hpq i).2 (Finset.mem_filter.1 hi).2⟩
  · intro j hj
    by_cases h : ∀ i, e i ≠ j
    · exact absurd (Finset.mem_filter.1 hj).2 (hn j h)
    · push Not at h
      obtain ⟨i, rfl⟩ := h
      exact ⟨i, Finset.mem_filter.2 ⟨Finset.mem_univ _, (hpq i).1 (Finset.mem_filter.1 hj).2⟩, rfl⟩

/-- The word that counts keys holds the number of samples whose key is below `t`. -/
theorem count_samples (hx : Packed x) (t : BitVec 32) (ht : t.toNat ≤ 0x40000000) :
    count (keys (F := Ideal) x) t = BitVec.ofNat 32 (cntLt (key x) t.toNat) := by
  rw [count_eq]
  exact congrArg (BitVec.ofNat 32) (card_image pos pos_injective _ _ (below_iff hx t ht) (pad_not_below hx t ht))

theorem cntLt_le (κ : Fin n → ℕ) (t : ℕ) : cntLt κ t ≤ n := (Finset.card_le_univ _).trans (by rw [Fintype.card_fin])

/-! ## The bit search -/

/-- One step of the kernel's search is one step of the search on numbers. -/
theorem trial_toNat (hx : Packed x) (N : BitVec 32) (hN : N.toNat < n) (j : Fin k0_t1_loop.trips) (t : BitVec 32)
    (hd : 2 ^ (27 - j.val) ∣ t.toNat) (ht : t.toNat + 2 ^ (27 - j.val) ≤ 0x40000000) :
    (trial (keys (F := Ideal) x) N j t).toNat = probe (cntLt (key x)) N.toNat (2 ^ (26 - j.val)) t.toNat := by
  have hj : j.val < 17 := j.isLt
  have hb : Scalar.shli 1#32 (Scalar.subi 26#32 (Scf.iv 0#32 1#32 j)) = BitVec.ofNat 32 (2 ^ (26 - j.val)) := by
    clear ht hd hj; revert j; decide
  have hp : 2 ^ (27 - j.val) = 2 * 2 ^ (26 - j.val) := by rw [← pow_succ']; congr 1; omega
  have hor : (Scalar.ori t (Scalar.shli 1#32 (Scalar.subi 26#32 (Scf.iv 0#32 1#32 j)))).toNat = t.toNat + 2 ^ (26 - j.val) := by
    rw [hb]
    refine or_bit t (26 - j.val) (by omega) (by rwa [show 26 - j.val + 1 = 27 - j.val by omega]) ?_
    omega
  have hc := count_samples hx (Scalar.ori t (Scalar.shli 1#32 (Scalar.subi 26#32 (Scf.iv 0#32 1#32 j)))) (by rw [hor]; omega)
  rw [hor] at hc
  have hle := cntLt_le (key x) (t.toNat + 2 ^ (26 - j.val))
  unfold trial probe
  rw [hc]
  unfold Scalar.select Scalar.cmpi
  have hcn : (BitVec.ofNat 32 (cntLt (key x) (t.toNat + 2 ^ (26 - j.val)))).toNat = cntLt (key x) (t.toNat + 2 ^ (26 - j.val)) := by
    rw [BitVec.toNat_ofNat, Nat.mod_eq_of_lt]; unfold n at hle; omega
  have hiff : IntOp.cmpi .sle (BitVec.ofNat 32 (cntLt (key x) (t.toNat + 2 ^ (26 - j.val)))) N = 1 ↔ _ := sle_iff (BitVec.ofNat 32 (cntLt (key x) (t.toNat + 2 ^ (26 - j.val)))) N
    (by rw [hcn]; unfold n at hle; omega) (by unfold n at hN; omega)
  rw [hcn] at hiff
  by_cases h : cntLt (key x) (t.toNat + 2 ^ (26 - j.val)) ≤ N.toNat
  · rw [if_pos h, if_pos (hiff.2 h), hor]
  · rw [if_neg h, if_neg fun h' => h (hiff.1 h')]

/-- What a word is known to be before trip `j`: a multiple of the next interval's length, with the rank in the interval. -/
structure Holds (x : IVec S800x128 32) (N j : ℕ) (t : BitVec 32) : Prop where
  dvd : 2 ^ (27 - j) ∣ t.toNat
  low : 0x38000000 ≤ t.toNat
  high : t.toNat + 2 ^ (27 - j) ≤ 0x40000000
  le : cntLt (key x) t.toNat ≤ N
  lt : N < cntLt (key x) (t.toNat + 2 ^ (27 - j))

/-- A trip halves the interval. -/
theorem Holds.step (hx : Packed x) (N : BitVec 32) (hN : N.toNat < n) (j : Fin k0_t1_loop.trips) (t : BitVec 32)
    (h : Holds x N.toNat j.val t) : Holds x N.toNat (j.val + 1) (trial (keys (F := Ideal) x) N j t) := by
  have hj : j.val < 17 := j.isLt
  have hp : 2 ^ (27 - j.val) = 2 * 2 ^ (26 - j.val) := by rw [← pow_succ']; congr 1; omega
  have e : 27 - (j.val + 1) = 26 - j.val := by omega
  have hs := probe_spec (cntLt (key x)) N.toNat (2 ^ (26 - j.val)) t.toNat h.le (by rw [← hp]; exact h.lt)
  have hbd := probe_bounds (cntLt (key x)) N.toNat (2 ^ (26 - j.val)) t.toNat
  have hdv := probe_dvd (cntLt (key x)) N.toNat (2 ^ (26 - j.val)) t.toNat ((Dvd.intro_left 2 hp.symm).trans h.dvd)
  have ht := trial_toNat hx N hN j t h.dvd h.high
  have h1 := h.low; have h2 := h.high
  refine ⟨?_, ?_, ?_, ?_, ?_⟩ <;> rw [ht]
  · rwa [e]
  · omega
  · rw [e]; omega
  · exact hs.1
  · rw [e]; exact hs.2

/-- Every sample's key is below the word of 2, -/
theorem cnt_all (hx : Packed x) : cntLt (key x) 0x40000000 = n := by
  unfold cntLt
  rw [Finset.filter_true_of_mem fun i _ => key_high hx i, Finset.card_univ, Fintype.card_fin]

/-- and none below the word of 2⁻¹⁵. -/
theorem cnt_none (hx : Packed x) : cntLt (key x) 0x38000000 = 0 := by
  unfold cntLt
  rw [Finset.filter_false_of_mem fun i _ => not_lt.2 (key_low hx i), Finset.card_empty]

/-- The search for one rank. -/
def seek (k : IVec S800x128 32) (N : BitVec 32) : BitVec 32 :=
  (List.finRange k0_t1_loop.trips).foldl (fun t j => trial k N j t) 939524096#32

/-- A property that each step carries on holds at the end of a fold. -/
theorem foldl_inv {α : Type} (m : ℕ) (g : α → Fin m → α) (P : ℕ → α → Prop) (a : α) (h₀ : P 0 a)
    (h : ∀ (j : Fin m) (a : α), P j.val a → P (j.val + 1) (g a j)) : P m ((List.finRange m).foldl g a) := by
  induction m generalizing a P with
  | zero => exact h₀
  | succ m ih =>
    rw [List.finRange_succ, List.foldl_cons, List.foldl_map]
    exact ih (fun a j => g a j.succ) (fun k => P (k + 1)) _ (h 0 a h₀) fun j a hj => h j.succ a hj

theorem seek_holds (hx : Packed x) (N : BitVec 32) (hN : N.toNat < n) : Holds x N.toNat 17 (seek (keys (F := Ideal) x) N) := by
  have ht : k0_t1_loop.trips = 17 := by decide
  have hf := foldl_inv k0_t1_loop.trips (fun t j => trial (keys (F := Ideal) x) N j t) (fun j t => Holds x N.toNat j t) 939524096#32 ?_
    fun j t h => h.step hx N hN j t
  · have hf' : Holds x N.toNat k0_t1_loop.trips (seek (keys (F := Ideal) x) N) := hf
    rwa [ht] at hf'
  have e : (939524096#32 : BitVec 32).toNat = 0x38000000 := rfl
  refine ⟨?_, ?_, ?_, ?_, ?_⟩ <;> rw [e]
  · norm_num
  · norm_num
  · rw [cnt_none hx]; omega
  · rw [show 0x38000000 + 2 ^ (27 - 0) = 0x40000000 by norm_num, cnt_all hx]; exact hN

/-- The keys are multiples of 1024, so that the entries below `t + 1024` are those at most `t`. -/
theorem cnt_succ (x : IVec S800x128 32) (t : ℕ) (ht : 2 ^ 10 ∣ t) : cntLt (key x) (t + 2 ^ 10) = cntLt (key x) (t + 1) := by
  unfold cntLt
  refine congrArg Finset.card (Finset.filter_congr fun i _ => ?_)
  unfold key
  omega

/-- THE SEARCH. The word it ends in is the key of rank `N`: at most `N` keys are below it, and more than `N` at most it. -/
theorem seek_spec (hx : Packed x) (N : BitVec 32) (hN : N.toNat < n) :
    (seek (keys (F := Ideal) x) N).toNat < 0x40000000
      ∧ cntLt (key x) (seek (keys (F := Ideal) x) N).toNat ≤ N.toNat
      ∧ N.toNat < cntLt (key x) ((seek (keys (F := Ideal) x) N).toNat + 1) := by
  have h := seek_holds hx N hN
  refine ⟨?_, h.le, ?_⟩
  · have := h.high; omega
  · rw [← cnt_succ x _ h.dvd]; exact h.lt

/-- The nine words the kernel's loop ends in are the nine searches' ends. -/
theorem bounds_eq (k : IVec S800x128 32) : bounds k = (seek k 10000#32, seek k 20000#32, seek k 30000#32, seek k 40000#32,
    seek k 50000#32, seek k 60000#32, seek k 70000#32, seek k 80000#32, seek k 90000#32) := by
  unfold bounds seek
  rw [Scf.fold_eq]
  generalize List.finRange k0_t1_loop.trips = l
  suffices h : ∀ a : Nine, l.foldl (fun acc k_1 => trials k k_1 acc) a
      = (l.foldl (fun t j => trial k 10000#32 j t) a.1, l.foldl (fun t j => trial k 20000#32 j t) a.2.1,
        l.foldl (fun t j => trial k 30000#32 j t) a.2.2.1, l.foldl (fun t j => trial k 40000#32 j t) a.2.2.2.1,
        l.foldl (fun t j => trial k 50000#32 j t) a.2.2.2.2.1, l.foldl (fun t j => trial k 60000#32 j t) a.2.2.2.2.2.1,
        l.foldl (fun t j => trial k 70000#32 j t) a.2.2.2.2.2.2.1, l.foldl (fun t j => trial k 80000#32 j t) a.2.2.2.2.2.2.2.1,
        l.foldl (fun t j => trial k 90000#32 j t) a.2.2.2.2.2.2.2.2) from
    h (939524096#32, 939524096#32, 939524096#32, 939524096#32, 939524096#32, 939524096#32, 939524096#32, 939524096#32, 939524096#32)
  induction l with
  | nil => intro a; rfl
  | cons j l ih =>
    rintro ⟨a, b, c, d, e, f, g, h, i⟩
    simp only [List.foldl_cons, ih]
    simp only [trials]

end Cert.KernelIdeal.Sel

end
-- ==== Proof.Sums.lean ====
/- The kernel's float sums at the ideal values: each is a sum over the samples, and the sums up to a bin boundary are the
   sums of the first entries of the samples in the order of their keys. -/
module

public import proofs.«01_k».proof.Proof.Reads
public import Idealize.ShloMosaic.Lib.SortFacts

@[expose] public section

set_option maxRecDepth 16384

noncomputable section

namespace Cert.KernelIdeal.Sel

open Cert.KernelIdeal Cert.KernelIdeal.Gen Cert.Words Cert.Search
open Idealize.ShloMosaic

/-! ## Constants -/

theorem const_zero : Ideal.ofBits .f32 0x00000000#32 = ((0 : ℝ) : EReal) := by
  rw [ofBits_eq _ (by decide)]; norm_num [real, TotalOrder.sig, TotalOrder.ulp]
theorem const_1 : Ideal.ofBits .f32 0x461C4000#32 = (((10000 : ℕ) : ℝ) : EReal) := by
  rw [ofBits_eq _ (by decide)]; norm_num [real, TotalOrder.sig, TotalOrder.ulp]
theorem const_2 : Ideal.ofBits .f32 0x469C4000#32 = (((20000 : ℕ) : ℝ) : EReal) := by
  rw [ofBits_eq _ (by decide)]; norm_num [real, TotalOrder.sig, TotalOrder.ulp]
theorem const_3 : Ideal.ofBits .f32 0x46EA6000#32 = (((30000 : ℕ) : ℝ) : EReal) := by
  rw [ofBits_eq _ (by decide)]; norm_num [real, TotalOrder.sig, TotalOrder.ulp]
theorem const_4 : Ideal.ofBits .f32 0x471C4000#32 = (((40000 : ℕ) : ℝ) : EReal) := by
  rw [ofBits_eq _ (by decide)]; norm_num [real, TotalOrder.sig, TotalOrder.ulp]
theorem const_5 : Ideal.ofBits .f32 0x47435000#32 = (((50000 : ℕ) : ℝ) : EReal) := by
  rw [ofBits_eq _ (by decide)]; norm_num [real, TotalOrder.sig, TotalOrder.ulp]
theorem const_6 : Ideal.ofBits .f32 0x476A6000#32 = (((60000 : ℕ) : ℝ) : EReal) := by
  rw [ofBits_eq _ (by decide)]; norm_num [real, TotalOrder.sig, TotalOrder.ulp]
theorem const_7 : Ideal.ofBits .f32 0x4788B800#32 = (((70000 : ℕ) : ℝ) : EReal) := by
  rw [ofBits_eq _ (by decide)]; norm_num [real, TotalOrder.sig, TotalOrder.ulp]
theorem const_8 : Ideal.ofBits .f32 0x479C4000#32 = (((80000 : ℕ) : ℝ) : EReal) := by
  rw [ofBits_eq _ (by decide)]; norm_num [real, TotalOrder.sig, TotalOrder.ulp]
theorem const_9 : Ideal.ofBits .f32 0x47AFC800#32 = (((90000 : ℕ) : ℝ) : EReal) := by
  rw [ofBits_eq _ (by decide)]; norm_num [real, TotalOrder.sig, TotalOrder.ulp]
theorem const_n : Ideal.ofBits .f32 0x47C35000#32 = (((100000 : ℕ) : ℝ) : EReal) := by
  rw [ofBits_eq _ (by decide)]; norm_num [real, TotalOrder.sig, TotalOrder.ulp]

/-! ## The labels in the block -/

/-- The index of sample `i` among the labels. -/
abbrev lab (i : Fin n) : S100000.Idx := Shape.Idx.ofFin i

/-- At a sample's place the padded labels hold its label, -/
theorem padded_pos (y : IVec S100000 32) (i : Fin n) : padded y (pos i) = y (lab i) := by
  have hi := i.isLt
  unfold n at hi
  unfold padded
  rw [shapeCast_apply _ _ (pos i) (Shape.Idx.ofFin (⟨i.val, by omega⟩ : Fin 102400)) ?_]
  · refine concatenate_pair_apply_left (t := S102400) (s₁ := S100000) (s₂ := S2400) 0 _ _ _ _ rfl (lab i) fun b => ?_
    have : b = 0 := Subsingleton.elim _ _
    subst this; rfl
  · rw [Shape.rowMajor_val_one, Shape.rowMajor_val_two, pos_zero, pos_one]
    show i.val = i.val / 128 * 128 + i.val % 128
    omega

/-- An index that is no sample's place is of the last 2400. -/
theorem pad_index (j : S800x128.Idx) (hj : ∀ i, pos i ≠ j) : 100000 ≤ (j 0).val * 128 + (j 1).val := by
  by_contra hlt
  have h1 : (j 1).val < 128 := (j 1).isLt
  refine hj ⟨(j 0).val * 128 + (j 1).val, not_le.1 hlt⟩ ?_
  funext a
  apply Fin.ext
  match a with
  | 0 => exact (pos_zero _).trans (by show ((j 0).val * 128 + (j 1).val) / 128 = _; omega)
  | 1 => exact (pos_one _).trans (by show ((j 0).val * 128 + (j 1).val) % 128 = _; omega)

/-- and elsewhere -1. -/
theorem padded_pad (y : IVec S100000 32) (j : S800x128.Idx) (hj : ∀ i, pos i ≠ j) : padded y j = 4294967295#32 := by
  have hp := pad_index j hj
  have h0 : (j 0).val < 800 := (j 0).isLt
  have h1 : (j 1).val < 128 := (j 1).isLt
  unfold padded
  rw [shapeCast_apply _ _ j (Shape.Idx.ofFin (⟨(j 0).val * 128 + (j 1).val, by omega⟩ : Fin 102400)) ?_]
  · refine (concatenate_pair_apply_right (t := S102400) (s₁ := S100000) (s₂ := S2400) 0 _ _ _ _ rfl rfl
      (Shape.Idx.ofFin (⟨(j 0).val * 128 + (j 1).val - 100000, by omega⟩ : Fin 2400)) (fun b hb => ?_) ?_).trans rfl
    · exact absurd (Subsingleton.elim _ _) hb
    · show (j 0).val * 128 + (j 1).val - 100000 + 100000 = (j 0).val * 128 + (j 1).val
      omega
  · rw [Shape.rowMajor_val_one, Shape.rowMajor_val_two]
    rfl

/-! ## Values at a sample and at the padding -/

variable {x : IVec S800x128 32}

/-- Whether a sample's prediction is its label, as a number. -/
def hit (x : IVec S800x128 32) (y : IVec S100000 32) (i : Fin n) : ℝ := if x (pos i) &&& 1023#32 = y (lab i) then 1 else 0

/-- A sample's confidence: the number its key denotes. -/
def confid (x : IVec S800x128 32) (i : Fin n) : ℝ := real (key x i)

theorem conf_pos (hx : Packed x) (i : Fin n) : conf (F := Ideal) x (pos i) = ((confid x i : ℝ) : EReal) := by
  have h := key_high hx i
  have e := toNat_keys x i
  refine (ofBits_eq (keys (F := Ideal) x (pos i)) (by rw [e]; omega)).trans ?_
  rw [e]
  rfl

/-- A one-bit word, widened, as a number. -/
theorem bit_value (b : BitVec 1) : (((b.setWidth 32).toInt : ℝ) : EReal) = (((if b = 1#1 then 1 else 0 : ℝ)) : EReal) := by
  have h : ∀ b : BitVec 1, (b.setWidth 32).toInt = if b = 1#1 then 1 else 0 := by decide
  rw [h b]
  split <;> simp

theorem ind_apply (p : IVec S800x128 1) (j : S800x128.Idx) : ind (F := Ideal) p j = (((if p j = 1#1 then 1 else 0 : ℝ)) : EReal) :=
  bit_value (p j)

theorem hits_apply (x y : IVec S800x128 32) (j : S800x128.Idx) :
    hits (F := Ideal) x y j = (((if x j &&& 1023#32 = y j then 1 else 0 : ℝ)) : EReal) := by
  have e : shapeCast S800x128 y shapeCasts_S800x128_S800x128 = y := shapeCast_self y _
  unfold hits
  rw [e]
  refine (bit_value (IntOp.cmpi .eq (x j &&& 1023#32) (y j))).trans ?_
  simp only [eq_iff]

theorem hits_pos (x : IVec S800x128 32) (y : IVec S100000 32) (i : Fin n) :
    hits (F := Ideal) x (padded y) (pos i) = ((hit x y i : ℝ) : EReal) := by
  rw [hits_apply, padded_pos]; rfl

/-- The padding word predicts class 0 and the padding label is -1: no hit. -/
theorem hits_pad (hx : Packed x) (y : IVec S100000 32) (j : S800x128.Idx) (hj : ∀ i, pos i ≠ j) :
    hits (F := Ideal) x (padded y) j = ((0 : ℝ) : EReal) := by
  rw [hits_apply, padded_pad y j hj, hx.pad j hj, if_neg (by decide)]

theorem keep_apply (p : IVec S800x128 1) (v : FVec Ideal S800x128 .f32) (j : S800x128.Idx) :
    keep p v j = if p j = 1#1 then v j else ((0 : ℝ) : EReal) := by
  rw [← const_zero]; rfl

/-! ## Sums over the samples -/

/-- The sum of the entries where `p` holds, if `p` holds at samples only and there as `q` does. -/
theorem total_keep (p : IVec S800x128 1) (q : Fin n → Prop) [DecidablePred q] (hq : ∀ i, p (pos i) = 1#1 ↔ q i)
    (hp : ∀ j, (∀ i, pos i ≠ j) → ¬ p j = 1#1) (v : FVec Ideal S800x128 .f32) (f : Fin n → ℝ) (hf : ∀ i, v (pos i) = ((f i : ℝ) : EReal)) :
    total (keep p v) = ((∑ i, (if q i then f i else 0) : ℝ) : EReal) := by
  classical
  have e : keep p v = fun j => ((if p j = 1#1 then (v j).toReal else 0 : ℝ) : EReal) := by
    funext j
    rw [keep_apply]
    by_cases h : p j = 1#1
    · rw [if_pos h, if_pos h]
      by_cases hj : ∀ i, pos i ≠ j
      · exact absurd h (hp j hj)
      · push Not at hj
        obtain ⟨i, rfl⟩ := hj
        rw [hf i, EReal.toReal_coe]
    · rw [if_neg h, if_neg h]
  rw [total_eq, e, coe_sum, sum_samples _ fun j hj => if_neg (hp j hj)]
  refine congrArg _ (Finset.sum_congr rfl fun i _ => ?_)
  rw [hf i, EReal.toReal_coe]
  by_cases h : q i
  · rw [if_pos h, if_pos ((hq i).2 h)]
  · rw [if_neg h, if_neg fun h' => h ((hq i).1 h')]

/-- How many entries there are where `p` holds. -/
theorem total_ind (p : IVec S800x128 1) (q : Fin n → Prop) [DecidablePred q] (hq : ∀ i, p (pos i) = 1#1 ↔ q i)
    (hp : ∀ j, (∀ i, pos i ≠ j) → ¬ p j = 1#1) : total (ind (F := Ideal) p) = ((∑ i, (if q i then (1 : ℝ) else 0) : ℝ) : EReal) := by
  have e : ind (F := Ideal) p = fun j => ((if p j = 1#1 then 1 else 0 : ℝ) : EReal) := funext fun j => ind_apply p j
  rw [total_eq, e, coe_sum, sum_samples _ fun j hj => if_neg (hp j hj)]
  refine congrArg _ (Finset.sum_congr rfl fun i _ => ?_)
  by_cases h : q i
  · rw [if_pos h, if_pos ((hq i).2 h)]
  · rw [if_neg h, if_neg fun h' => h ((hq i).1 h')]

theorem tied_iff (hx : Packed x) (t : BitVec 32) (i : Fin n) :
    tied (keys (F := Ideal) x) t (pos i) = 1#1 ↔ key x i = t.toNat := by
  refine (eq_iff _ _).trans ?_
  rw [← toNat_keys, BitVec.toNat_inj]; rfl

theorem pad_not_tied (hx : Packed x) (t : BitVec 32) (ht : t.toNat < 0x40000000) (j : S800x128.Idx) (hj : ∀ i, pos i ≠ j) :
    ¬ tied (keys (F := Ideal) x) t j = 1#1 := by
  intro h
  have h' := (eq_iff _ _).1 h
  rw [keys_pad hx j hj] at h'
  rw [show broadcast S800x128 t j = t from rfl] at h'
  rw [← h'] at ht
  exact absurd ht (by decide)

/-- All hits are the samples' hits. -/
theorem total_hits (hx : Packed x) (y : IVec S100000 32) : total (hits (F := Ideal) x (padded y)) = ((∑ i, hit x y i : ℝ) : EReal) := by
  have e : hits (F := Ideal) x (padded y) = fun j => ((if x j &&& 1023#32 = padded y j then 1 else 0 : ℝ) : EReal) :=
    funext fun j => hits_apply x _ j
  rw [total_eq, e, coe_sum, sum_samples _ fun j hj => by rw [padded_pad y j hj, hx.pad j hj, if_neg (by decide)]]
  refine congrArg _ (Finset.sum_congr rfl fun i _ => ?_)
  rw [padded_pos]; rfl

/-- All confidences are the samples' confidences. -/
theorem confAll_eq (hx : Packed x) : confAll (F := Ideal) x = ((∑ i, confid x i : ℝ) : EReal) := by
  unfold confAll
  rw [total_keep (below (keys (F := Ideal) x) 1073741824#32) (fun i => key x i < 0x40000000) (fun i => below_iff hx 1073741824#32 (by decide) i)
    (pad_not_below hx 1073741824#32 (by decide)) _ (confid x) (conf_pos hx)]
  refine congrArg _ (Finset.sum_congr rfl fun i _ => if_pos (key_high hx i))

/-- The number of entries below `t` as a sum of ones. -/
theorem cnt_cast (κ : Fin n → ℕ) (t : ℕ) : (∑ i, (if κ i < t then (1 : ℝ) else 0)) = (cntLt κ t : ℝ) := by
  unfold cntLt
  rw [← Finset.sum_filter, Finset.sum_const, nsmul_eq_mul, mul_one]

theorem short_eq (hx : Packed x) (N : ℕ) (t : BitVec 32) (ht : t.toNat < 0x40000000) :
    short (F := Ideal) (keys (F := Ideal) x) (((N : ℝ)) : EReal) t = (((N : ℝ) - cntLt (key x) t.toNat : ℝ) : EReal) := by
  unfold short
  rw [total_ind (below (keys (F := Ideal) x) t) (fun i => key x i < t.toNat) (fun i => below_iff hx t ht.le i) (pad_not_below hx t ht.le), cnt_cast]
  exact (EReal.coe_sub _ _).symm

/-- THE CONFIDENCES UP TO A BOUNDARY: with `t` the key of rank `N`, the kernel's sum is that of the first `N` samples in any
    order that sorts the keys. -/
theorem confTo_eq (hx : Packed x) (σ : Equiv.Perm (Fin n)) (hs : Monotone (key x ∘ σ)) (N : ℕ) (hN : N ≤ n) (t : BitVec 32)
    (ht : t.toNat < 0x40000000) (h₁ : cntLt (key x) t.toNat ≤ N) (h₂ : N < cntLt (key x) (t.toNat + 1)) :
    confTo (F := Ideal) x (((N : ℝ)) : EReal) t = ((prefixSum σ (confid x) N : ℝ) : EReal) := by
  unfold confTo
  rw [total_keep (below (keys (F := Ideal) x) t) (fun i => key x i < t.toNat) (fun i => below_iff hx t ht.le i) (pad_not_below hx t ht.le) _ (confid x) (conf_pos hx),
    short_eq hx N t ht, prefixSum_eq (key x) σ hs t.toNat N hN (confid x) (real t.toNat) h₁ h₂ fun _ i hi => by unfold confid; rw [hi]]
  show _ + _ * Ideal.ofBits .f32 t = _
  rw [ofBits_eq t (by omega), EReal.coe_add, EReal.coe_mul]

/-- THE HITS UP TO A BOUNDARY: the same, where the samples at the boundary's key are all below the boundary or all hits or all misses. -/
theorem hitsTo_eq (hx : Packed x) (y : IVec S100000 32) (σ : Equiv.Perm (Fin n)) (hs : Monotone (key x ∘ σ)) (N : ℕ) (hN : N ≤ n)
    (t : BitVec 32) (ht : t.toNat < 0x40000000) (h₁ : cntLt (key x) t.toNat ≤ N) (h₂ : N < cntLt (key x) (t.toNat + 1))
    (hv : cntLt (key x) t.toNat = N ∨ ∃ v, ∀ i, key x i = t.toNat → hit x y i = v) :
    hitsTo (F := Ideal) x (padded y) (((N : ℝ)) : EReal) t = ((prefixSum σ (hit x y) N : ℝ) : EReal) := by
  have hne := exists_at (key x) t.toNat (by omega)
  have hpos : (∑ i, (if key x i = t.toNat then (1 : ℝ) else 0)) ≠ 0 := by
    rw [← Finset.sum_filter, Finset.sum_const, nsmul_eq_mul, mul_one]
    exact_mod_cast (Finset.card_pos.2 hne).ne'
  unfold hitsTo
  rw [total_keep (below (keys (F := Ideal) x) t) (fun i => key x i < t.toNat) (fun i => below_iff hx t ht.le i) (pad_not_below hx t ht.le) _ (hit x y) (hits_pos x y),
    short_eq hx N t ht, total_keep (tied (keys (F := Ideal) x) t) (fun i => key x i = t.toNat) (tied_iff hx t) (pad_not_tied hx t ht) _ (hit x y) (hits_pos x y),
    total_ind (tied (keys (F := Ideal) x) t) (fun i => key x i = t.toNat) (tied_iff hx t) (pad_not_tied hx t ht)]
  show _ + Ideal.div (_ * _) _ = _
  rw [← EReal.coe_mul, Ideal.div_coe hpos, ← EReal.coe_mul, ← EReal.coe_add, mul_one_div, mul_div_assoc]
  refine congrArg Real.toEReal ?_
  rcases hv with hv | ⟨v, hv⟩
  · rw [hv, sub_self, zero_mul, add_zero, prefixSum_eq (key x) σ hs t.toNat N hN (hit x y) 0 h₁ h₂ fun h => absurd hv h.ne, hv, sub_self,
      zero_mul, add_zero]
  · rw [mean_of_const (key x) t.toNat (hit x y) v hne hv, prefixSum_eq (key x) σ hs t.toNat N hN (hit x y) v h₁ h₂ fun _ => hv]

end Cert.KernelIdeal.Sel

end
-- ==== Proof.Finish.lean ====
/- The word the kernel stores, as a number: the mean over the bins of the gap between the sums of confidences and of hits,
   each bin's sums the difference of the sums up to its two ends in any order that sorts the samples by key. -/
module

public import proofs.«01_k».proof.Proof.Sums

@[expose] public section

set_option maxRecDepth 16384

noncomputable section

namespace Cert.KernelIdeal.Sel

open Cert.KernelIdeal Cert.KernelIdeal.Gen Cert.Words Cert.Search
open Idealize.ShloMosaic

/-- At the boundary after the first `N` samples, equal keys do not matter: no sample of the boundary's key is among the
    first `N`, or all samples of that key are hits, or none is. -/
def EvenAt (x : IVec S800x128 32) (y : IVec S100000 32) (N : ℕ) : Prop :=
  ∀ t, cntLt (key x) t ≤ N → N < cntLt (key x) (t + 1) → cntLt (key x) t = N ∨ ∃ v, ∀ i, key x i = t → hit x y i = v

variable {x : IVec S800x128 32}

/-- The confidences up to a searched boundary. -/
theorem confTo_seek (hx : Packed x) (σ : Equiv.Perm (Fin n)) (hs : Monotone (key x ∘ σ)) (w N32 : BitVec 32) (N : ℕ)
    (hw : Ideal.ofBits .f32 w = ((N : ℝ) : EReal)) (hN : N32.toNat = N) (hlt : N < n) :
    confTo (F := Ideal) x (Scalar.ofBits .f32 w) (seek (keys (F := Ideal) x) N32) = ((prefixSum σ (confid x) N : ℝ) : EReal) := by
  obtain ⟨h₀, h₁, h₂⟩ := seek_spec hx N32 (hN ▸ hlt)
  rw [hN] at h₁ h₂
  rw [show (Scalar.ofBits .f32 w : Ideal .f32) = ((N : ℝ) : EReal) from hw]
  exact confTo_eq hx σ hs N hlt.le _ h₀ h₁ h₂

/-- The hits up to a searched boundary. -/
theorem hitsTo_seek (hx : Packed x) (y : IVec S100000 32) (σ : Equiv.Perm (Fin n)) (hs : Monotone (key x ∘ σ)) (w N32 : BitVec 32) (N : ℕ)
    (hw : Ideal.ofBits .f32 w = ((N : ℝ) : EReal)) (hN : N32.toNat = N) (hlt : N < n) (he : EvenAt x y N) :
    hitsTo (F := Ideal) x (padded y) (Scalar.ofBits .f32 w) (seek (keys (F := Ideal) x) N32) = ((prefixSum σ (hit x y) N : ℝ) : EReal) := by
  obtain ⟨h₀, h₁, h₂⟩ := seek_spec hx N32 (hN ▸ hlt)
  rw [hN] at h₁ h₂
  rw [show (Scalar.ofBits .f32 w : Ideal .f32) = ((N : ℝ) : EReal) from hw]
  exact hitsTo_eq hx y σ hs N hlt.le _ h₀ h₁ h₂ (he _ h₁ h₂)

/-- All entries, in whatever order. -/
theorem prefixSum_all (σ : Equiv.Perm (Fin n)) (f : Fin n → ℝ) : prefixSum σ f 100000 = ∑ i, f i := by
  rw [← Equiv.sum_comp σ f]
  exact Finset.sum_congr rfl fun k _ => if_pos k.isLt

theorem prefixSum_none (σ : Equiv.Perm (Fin n)) (f : Fin n → ℝ) : prefixSum σ f 0 = 0 :=
  Finset.sum_eq_zero fun _ _ => if_neg (Nat.not_lt_zero _)

/-- The sum up to the end of bin `b`. -/
def upTo (σ : Equiv.Perm (Fin n)) (f : Fin n → ℝ) : Fin 10 → ℝ :=
  ![prefixSum σ f 10000, prefixSum σ f 20000, prefixSum σ f 30000, prefixSum σ f 40000, prefixSum σ f 50000, prefixSum σ f 60000,
    prefixSum σ f 70000, prefixSum σ f 80000, prefixSum σ f 90000, prefixSum σ f 100000]

/-- Ten reals, read among the ideal values one by one. -/
theorem coe_vec (a b c d e f g h i j : ℝ) :
    (![(a : EReal), (b : EReal), (c : EReal), (d : EReal), (e : EReal), (f : EReal), (g : EReal), (h : EReal), (i : EReal), (j : EReal)] : Fin 10 → EReal)
      = fun k => ((![a, b, c, d, e, f, g, h, i, j] k : ℝ) : EReal) := by
  funext k
  fin_cases k <;> rfl

theorem confSums_eq (hx : Packed x) (σ : Equiv.Perm (Fin n)) (hs : Monotone (key x ∘ σ)) :
    confSums (F := Ideal) x (bounds (keys (F := Ideal) x)) = fun b => ((upTo σ (confid x) b : ℝ) : EReal) := by
  have q {N : ℕ} (h : N < 100000) : N < n := h
  have e1 := confTo_seek hx σ hs 0x461C4000#32 10000#32 10000 const_1 (by decide) (q (by norm_num))
  have e2 := confTo_seek hx σ hs 0x469C4000#32 20000#32 20000 const_2 (by decide) (q (by norm_num))
  have e3 := confTo_seek hx σ hs 0x46EA6000#32 30000#32 30000 const_3 (by decide) (q (by norm_num))
  have e4 := confTo_seek hx σ hs 0x471C4000#32 40000#32 40000 const_4 (by decide) (q (by norm_num))
  have e5 := confTo_seek hx σ hs 0x47435000#32 50000#32 50000 const_5 (by decide) (q (by norm_num))
  have e6 := confTo_seek hx σ hs 0x476A6000#32 60000#32 60000 const_6 (by decide) (q (by norm_num))
  have e7 := confTo_seek hx σ hs 0x4788B800#32 70000#32 70000 const_7 (by decide) (q (by norm_num))
  have e8 := confTo_seek hx σ hs 0x479C4000#32 80000#32 80000 const_8 (by decide) (q (by norm_num))
  have e9 := confTo_seek hx σ hs 0x47AFC800#32 90000#32 90000 const_9 (by decide) (q (by norm_num))
  have e10 := (confAll_eq hx).trans (congrArg Real.toEReal (prefixSum_all σ (confid x)).symm)
  unfold confSums
  rw [bounds_eq]
  dsimp only
  rw [e1, e2, e3, e4, e5, e6, e7, e8, e9, e10]
  exact coe_vec _ _ _ _ _ _ _ _ _ _

theorem hitSums_eq (hx : Packed x) (y : IVec S100000 32) (σ : Equiv.Perm (Fin n)) (hs : Monotone (key x ∘ σ))
    (he : ∀ b : Fin 9, EvenAt x y ((b.val + 1) * 10000)) :
    hitSums (F := Ideal) x (padded y) (bounds (keys (F := Ideal) x)) = fun b => ((upTo σ (hit x y) b : ℝ) : EReal) := by
  have q {N : ℕ} (h : N < 100000) : N < n := h
  have e1 := hitsTo_seek hx y σ hs 0x461C4000#32 10000#32 10000 const_1 (by decide) (q (by norm_num)) (he 0)
  have e2 := hitsTo_seek hx y σ hs 0x469C4000#32 20000#32 20000 const_2 (by decide) (q (by norm_num)) (he 1)
  have e3 := hitsTo_seek hx y σ hs 0x46EA6000#32 30000#32 30000 const_3 (by decide) (q (by norm_num)) (he 2)
  have e4 := hitsTo_seek hx y σ hs 0x471C4000#32 40000#32 40000 const_4 (by decide) (q (by norm_num)) (he 3)
  have e5 := hitsTo_seek hx y σ hs 0x47435000#32 50000#32 50000 const_5 (by decide) (q (by norm_num)) (he 4)
  have e6 := hitsTo_seek hx y σ hs 0x476A6000#32 60000#32 60000 const_6 (by decide) (q (by norm_num)) (he 5)
  have e7 := hitsTo_seek hx y σ hs 0x4788B800#32 70000#32 70000 const_7 (by decide) (q (by norm_num)) (he 6)
  have e8 := hitsTo_seek hx y σ hs 0x479C4000#32 80000#32 80000 const_8 (by decide) (q (by norm_num)) (he 7)
  have e9 := hitsTo_seek hx y σ hs 0x47AFC800#32 90000#32 90000 const_9 (by decide) (q (by norm_num)) (he 8)
  have e10 := (total_hits hx y).trans (congrArg Real.toEReal (prefixSum_all σ (hit x y)).symm)
  unfold hitSums
  rw [bounds_eq]
  dsimp only
  rw [e1, e2, e3, e4, e5, e6, e7, e8, e9, e10]
  exact coe_vec _ _ _ _ _ _ _ _ _ _

/-- The absolute value of a real among the ideal values. -/
theorem abs_coe (a : ℝ) : max (a : EReal) (-(a : EReal)) = ((|a| : ℝ) : EReal) := by
  rw [← EReal.coe_neg, ← EReal.coe_strictMono.monotone.map_max]; rfl

theorem gap_coe (c' h' c h : ℝ) : gap (F := Ideal) (c' : EReal) (h' : EReal) (c : EReal) (h : EReal) = ((|(c' - c) - (h' - h)| : ℝ) : EReal) := by
  show max (((c' : EReal) - c) - ((h' : EReal) - h)) (-(((c' : EReal) - c) - ((h' : EReal) - h))) = _
  rw [← EReal.coe_sub, ← EReal.coe_sub, ← EReal.coe_sub, abs_coe]

/-- The gap of bin `b`: the sum of its samples' confidences less the sum of their hits, absolutely. -/
def binGap (σ : Equiv.Perm (Fin n)) (c h : Fin n → ℝ) (b : Fin 10) : ℝ :=
  |(prefixSum σ c ((b.val + 1) * 10000) - prefixSum σ c (b.val * 10000)) - (prefixSum σ h ((b.val + 1) * 10000) - prefixSum σ h (b.val * 10000))|

theorem finish_eq (σ : Equiv.Perm (Fin n)) (c h : Fin n → ℝ) :
    finish (F := Ideal) (fun b => ((upTo σ c b : ℝ) : EReal)) (fun b => ((upTo σ h b : ℝ) : EReal))
      = (((∑ b, binGap σ c h b) / 100000 : ℝ) : EReal) := by
  have z : (Scalar.ofBits .f32 0x00000000#32 : Ideal .f32) = ((0 : ℝ) : EReal) := const_zero
  have e : (Scalar.ofBits .f32 0x47C35000#32 : Ideal .f32) = (((100000 : ℕ) : ℝ) : EReal) := const_n
  unfold finish
  rw [z, e]
  simp only [gap_coe]
  show Ideal.div (((((((((((0 : ℝ) : EReal) + _) + _) + _) + _) + _) + _) + _) + _ + _) + _) _ = _
  simp only [← EReal.coe_add]
  rw [Ideal.div_coe (by norm_num), ← EReal.coe_mul]
  refine congrArg Real.toEReal ?_
  rw [mul_one_div, show (((100000 : ℕ) : ℝ)) = 100000 by norm_num]
  refine congrArg (· / (100000 : ℝ)) ?_
  simp only [Fin.sum_univ_succ, Finset.univ_unique, Finset.sum_singleton]
  simp only [binGap, upTo]
  simp [prefixSum_none]
  ring

/-- The kernel's word: the mean over all samples of the bins' gaps. -/
theorem outWord_eq (hx : Packed x) (y : IVec S100000 32) (σ : Equiv.Perm (Fin n)) (hs : Monotone (key x ∘ σ))
    (he : ∀ b : Fin 9, EvenAt x y ((b.val + 1) * 10000)) :
    outWord (F := Ideal) x (padded y) = (((∑ b, binGap σ (confid x) (hit x y) b) / 100000 : ℝ) : EReal) := by
  unfold outWord
  rw [confSums_eq hx σ hs, hitSums_eq hx y σ hs he, finish_eq]

end Cert.KernelIdeal.Sel

end
-- ==== Proof.Sorting.lean ====
/- A stable sort of a row of any length, as a permutation of its positions that sorts the keys its comparator compares. -/
module

public import Idealize.ShloMosaic.PureOps.Ideal
public import Idealize.ShloMosaic.Lib.SortFacts

@[expose] public section

noncomputable section

namespace Cert.Sorting

open Idealize.ShloMosaic

variable {N : ℕ}

/-- The positions in the order of a sort under `b`. -/
def sortPerm (b : Fin N → Fin N → Bool) : Equiv.Perm (Fin N) :=
  Equiv.ofBijective (sortedFrom b) ⟨sortedFrom_injective _, sortedFrom_surjective _⟩

/-- Where `b` compares keys, the keys come out in order. -/
theorem sortPerm_sorts (κ : Fin N → ℕ) (b : Fin N → Fin N → Bool) (hb : ∀ k k', b k k' = true ↔ κ k < κ k') :
    Monotone (κ ∘ sortPerm b) := by
  have hf (k k' : Fin N) : b k k' = false ↔ ¬ κ k < κ k' := by rw [← hb, Bool.not_eq_true]
  intro i j hij
  rcases lt_or_eq_of_le hij with h | h
  · have := sortedFrom_noInversion b b (fun k k' hab => (hf k' k).2 (not_lt.2 ((hb k k').1 hab).le))
      (fun _ _ h => h) (fun k k' k'' h₁ h₂ => (hf k k'').2 (not_lt.2 ((not_lt.1 ((hf k' k'').1 h₂)).trans (not_lt.1 ((hf k k').1 h₁))))) i j h
    exact not_lt.1 ((hf _ _).1 this)
  · rw [h]

/-- A sort of one row reads it in that order. -/
theorem sort_at {α : Type} (cmp : α → α → BitVec 1) (x : (⟨1, ![N]⟩ : Shape).Idx → α) (k : Fin N) :
    Host.sort ⟨1, ![N]⟩ 0 cmp x (Shape.Idx.ofFin k)
      = x (Shape.Idx.ofFin (sortPerm (fun k k' => cmp (x (Shape.Idx.ofFin k)) (x (Shape.Idx.ofFin k')) == 1#1) k)) :=
  Host.sort_rank1 cmp x _

/-- A sort of a row with a second carried along reads the second in that order. -/
theorem sort2_at {α β : Type} (cmp : α × β → α × β → BitVec 1) (x : (⟨1, ![N]⟩ : Shape).Idx → α) (y : (⟨1, ![N]⟩ : Shape).Idx → β)
    (k : Fin N) :
    (Host.sort2 ⟨1, ![N]⟩ 0 cmp x y).2 (Shape.Idx.ofFin k)
      = y (Shape.Idx.ofFin (sortPerm (fun k k' => cmp (x (Shape.Idx.ofFin k), y (Shape.Idx.ofFin k))
          (x (Shape.Idx.ofFin k'), y (Shape.Idx.ofFin k')) == 1#1) k)) := by
  unfold Host.sort2
  simp [sortPerm]
  rfl

/-- The row of positions. -/
theorem iota_at (k : Fin N) : iotaInDim ⟨1, ![N]⟩ 32 0 (Shape.Idx.ofFin k) = BitVec.ofNat 32 k.val := rfl

end Cert.Sorting

end
-- ==== Proof.Sorted.lean ====
/- The reference's order: its sort by confidence, carrying positions, is a permutation of the samples that sorts the keys;
   and what its gather, reshape and row sums read. -/
module

public import proofs.«01_k».proof.Proof.Finish
public import proofs.«01_k».proof.Proof.Sorting
public import proofs.«01_k».proof.Proof.Gen.ReferenceIdeal
public import Idealize.ShloMosaic.Lib.StableHlo.Predicate
public import Idealize.ShloMosaic.Lib.Pointwise

@[expose] public section

set_option maxRecDepth 16384

noncomputable section

namespace Cert.ReferenceIdeal.Sorted

open Cert.ReferenceIdeal Cert.ReferenceIdeal.Gen Cert.Words Cert.Search Cert.Sorting Cert.KernelIdeal.Sel
open Idealize.ShloMosaic

/-! ## The terms of the reference -/

/-- The samples' packed words, in a row. -/
def samples (x : IVec S800x128 32) : IVec S100000 32 :=
  extractStridedSlice S100000 ![0] (shapeCast S102400 x shapeCasts_S800x128_S102400) slices_S102400_S100000_0

/-- The samples' confidences. -/
def confs (x : IVec S800x128 32) : FVec Ideal S100000 .f32 :=
  bitcastToFloat (F := Ideal) .f32 (andi (samples x) (broadcastInDim S100000 ![] bcast_S_S100000 (constantI S_ 32 4294966272#32)))

/-- Per sample, whether the prediction is the label, as a number. -/
def rights (x : IVec S800x128 32) (y : IVec S100000 32) : FVec Ideal S100000 .f32 :=
  uitofp .f32 (cmpi .eq (andi (samples x) (broadcastInDim S100000 ![] bcast_S_S100000 (constantI S_ 32 1023#32))) y)

/-- The samples' positions in the order of their confidences. -/
def order (x : IVec S800x128 32) : IVec S100000 32 :=
  (Host.sort2 S100000 0 (comparator_f32_i32_d0 (F := Ideal)) (confs x) (iotaInDim S100000 32 0)).2

/-- The order as a column of indices: a negative one would count from the end. -/
def column (x : IVec S800x128 32) : IVec S100000x1 32 :=
  broadcastInDim S100000x1 ![0] bcast_S100000_S100000x1_0
    (select (cmpi .slt (order x) (broadcastInDim S100000 ![] bcast_S_S100000 (constantI S_ 32 0#32)))
      (addi (order x) (broadcastInDim S100000 ![] bcast_S_S100000 (constantI S_ 32 100000#32))) (order x))

/-- Values of the samples taken in the order, ten bins of ten thousand, each bin summed. -/
def binSums (x : IVec S800x128 32) (v : FVec Ideal S100000 .f32) : FVec Ideal S10 .f32 :=
  Host.reduceAdd (shapeCast S10x10000 (Host.gather gather_S100000_S100000x1_S100000_n_0_n_n_0_1_1 v (column x)) shapeCasts_S100000_S10x10000)
    (constant S_ .f32 0x00000000#32) reducesTo_S10x10000_S10_d1 h_S_

/-! ## Reading them -/

theorem samples_lab (x : IVec S800x128 32) (i : Fin n) : samples x (lab i) = x (pos i) := by
  have hi := i.isLt
  unfold n at hi
  unfold samples
  rw [extractStridedSlice_apply _ _ _ (lab i) (Shape.Idx.ofFin (⟨i.val, by omega⟩ : Fin 102400)) ?_]
  · rw [shapeCast_apply _ _ _ (pos i) ?_]
    rw [Shape.rowMajor_val_one, Shape.rowMajor_val_two, pos_zero, pos_one]
    show i.val / 128 * 128 + i.val % 128 = i.val
    omega
  · intro a
    have : a = 0 := Subsingleton.elim _ _
    subst this
    exact (Nat.zero_add _).symm

variable {x : IVec S800x128 32}

theorem confs_lab (hx : Packed x) (i : Fin n) : confs x (lab i) = ((confid x i : ℝ) : EReal) := by
  have h := key_high hx i
  have e : (samples x (lab i) &&& 4294966272#32).toNat = key x i := by rw [samples_lab]; exact toNat_key _
  refine (ofBits_eq (samples x (lab i) &&& 4294966272#32) (by rw [e]; omega)).trans ?_
  rw [e]
  rfl

theorem bit_real (b : BitVec 1) : ((b.toNat : ℝ) : EReal) = (((if b = 1#1 then 1 else 0 : ℝ)) : EReal) := by
  have h : ∀ b : BitVec 1, b.toNat = if b = 1#1 then 1 else 0 := by decide
  rw [h b]
  split <;> simp

theorem rights_lab (x : IVec S800x128 32) (y : IVec S100000 32) (i : Fin n) : rights x y (lab i) = ((hit x y i : ℝ) : EReal) := by
  refine (bit_real (IntOp.cmpi .eq (samples x (lab i) &&& 1023#32) (y (lab i)))).trans ?_
  rw [samples_lab]
  unfold hit
  refine congrArg Real.toEReal ?_
  by_cases h : x (pos i) &&& 1023#32 = y (lab i)
  · rw [if_pos h, if_pos ((eq_iff _ _).2 h)]
  · rw [if_neg h, if_neg (mt (eq_iff _ _).1 h)]

/-- The sort's comparator on two reals is their strict order. -/
theorem before_iff (a b : ℝ) (u v : BitVec 32) :
    comparator_f32_i32_d0 (F := Ideal) ((a : EReal), u) ((b : EReal), v) = 1#1 ↔ a < b := by
  have c (r : ℝ) : Scalar.select (Ideal.cmp .une (r : EReal) (r : EReal)) (Ideal.ofBits .f32 0x7FC00000#32)
      (Scalar.select (Ideal.cmp .oeq (r : EReal) (Ideal.ofBits .f32 0x00000000#32)) (Ideal.ofBits .f32 0x00000000#32) (r : EReal)) = (r : EReal) := by
    have h1 : Ideal.cmp .une (r : EReal) (r : EReal) = 0#1 := by simp [Ideal.cmp]
    rw [h1, const_zero]
    show Scalar.select (Ideal.cmp .oeq (r : EReal) ((0 : ℝ) : EReal)) ((0 : ℝ) : EReal) (r : EReal) = _
    by_cases h : (r : EReal) = ((0 : ℝ) : EReal)
    · rw [h]; unfold Scalar.select; split <;> rfl
    · have h2 : Ideal.cmp .oeq (r : EReal) ((0 : ℝ) : EReal) = 0#1 := by unfold Ideal.cmp; simp only [h]; rfl
      rw [h2]; rfl
  have e : comparator_f32_i32_d0 (F := Ideal) ((a : EReal), u) ((b : EReal), v) = Ideal.cmp .olt (a : EReal) (b : EReal) := by
    refine Eq.trans ?_ (congrArg₂ (Ideal.cmp .olt) (c a) (c b))
    rfl
  rw [e]
  have h3 : Ideal.cmp .olt (a : EReal) (b : EReal) = BitVec.ofBool (decide ((a : EReal) < (b : EReal))) := rfl
  rw [h3, ← EReal.coe_lt_coe_iff]
  by_cases h : (a : EReal) < (b : EReal)
  · simp [h]
  · simp [h]

/-- Whether the sort puts sample `k` before sample `k'`. -/
def before (x : IVec S800x128 32) (k k' : Fin n) : Bool :=
  comparator_f32_i32_d0 (F := Ideal) (confs x (lab k), iotaInDim S100000 32 0 (lab k)) (confs x (lab k'), iotaInDim S100000 32 0 (lab k')) == 1#1

theorem before_eq (hx : Packed x) (k k' : Fin n) : before x k k' = true ↔ key x k < key x k' := by
  unfold before
  rw [confs_lab hx, confs_lab hx, beq_iff_eq, before_iff]
  exact real_lt_iff ((key_high hx k).trans (by norm_num)) ((key_high hx k').trans (by norm_num))

/-- The sort's permutation. -/
def perm (x : IVec S800x128 32) : Equiv.Perm (Fin n) := sortPerm (before x)

/-- It sorts the keys. -/
theorem perm_sorts (hx : Packed x) : Monotone (key x ∘ perm x) := sortPerm_sorts (key x) (before x) (before_eq hx)

theorem order_lab (x : IVec S800x128 32) (k : Fin n) : order x (lab k) = BitVec.ofNat 32 (perm x k).val := by
  have h := sort2_at (comparator_f32_i32_d0 (F := Ideal)) (confs x) (iotaInDim S100000 32 0) k
  rw [iota_at] at h
  exact h

/-- A word of a position is no negative number. -/
theorem nonneg (k : ℕ) (h : k < 100000) : IntOp.cmpi .slt (BitVec.ofNat 32 k) 0#32 = 0#1 := by
  refine bit_eq_zero fun e => ?_
  have hk : (BitVec.ofNat 32 k).toNat = k := by rw [BitVec.toNat_ofNat]; omega
  have := (slt_iff _ _ (by omega) (by decide)).1 e
  exact absurd this (Nat.not_lt_zero _)

theorem position (k : ℕ) (h : k < 100000) : min (BitVec.ofNat 32 k).toInt.toNat (100000 - 1) = k := by
  have hk : (BitVec.ofNat 32 k).toNat = k := by rw [BitVec.toNat_ofNat]; omega
  rw [BitVec.toInt_eq_toNat_of_lt (by omega), hk, Int.toNat_natCast]
  omega

theorem column_lab (x : IVec S800x128 32) (k : Fin n) : column x (StableHlo.Predicate.ixP k) = BitVec.ofNat 32 (perm x k).val := by
  unfold column
  rw [broadcastInDim_apply _ _ _ _ (lab k) ?_]
  · show Scalar.select (IntOp.cmpi .slt (order x (lab k)) 0#32) (order x (lab k) + 100000#32) (order x (lab k)) = _
    rw [order_lab, nonneg _ (perm x k).isLt]
    rfl
  · intro a
    have : a = 0 := Subsingleton.elim _ _
    subst this
    rfl

/-- The gather takes the samples in the order. -/
theorem taken (x : IVec S800x128 32) (v : FVec Ideal S100000 .f32) (k : Fin n) :
    Host.gather gather_S100000_S100000x1_S100000_n_0_n_n_0_1_1 v (column x) (lab k) = v (lab (perm x k)) := by
  refine (StableHlo.Predicate.gather_take gather_S100000_S100000x1_S100000_n_0_n_n_0_1_1 rfl rfl rfl rfl v (column x) k (by norm_num)).trans ?_
  refine congrArg v (congrArg Shape.Idx.ofFin (Fin.ext ?_))
  dsimp only
  rw [column_lab, position _ (perm x k).isLt]

end Cert.ReferenceIdeal.Sorted

end
-- ==== Proof.Bins.lean ====
/- The reference's result as a number: its bins' row sums are the sums between a bin's ends in the sorted order. -/
module

public import proofs.«01_k».proof.Proof.Sorted

@[expose] public section

set_option maxRecDepth 16384

noncomputable section

namespace Cert.ReferenceIdeal.Sorted

open Cert.ReferenceIdeal Cert.ReferenceIdeal.Gen Cert.Words Cert.Search Cert.Sorting Cert.KernelIdeal.Sel
open Idealize.ShloMosaic

/-- The sum over row `b` of a sequence cut into rows of `P`, as a sum over the whole sequence. -/
theorem sum_row {N P : ℕ} (b : ℕ) (h : (b + 1) * P ≤ N) (g : Fin N → ℝ) (hk : ∀ k : Fin P, b * P + k.val < N) :
    ∑ k : Fin P, g ⟨b * P + k.val, hk k⟩ = ∑ k : Fin N, if b * P ≤ k.val ∧ k.val < (b + 1) * P then g k else 0 := by
  rw [← Finset.sum_filter]
  have e : (b + 1) * P = b * P + P := Nat.succ_mul b P
  refine Finset.sum_bij (fun k _ => (⟨b * P + k.val, hk k⟩ : Fin N)) ?_ ?_ ?_ ?_
  · intro k _
    have := k.isLt
    refine Finset.mem_filter.2 ⟨Finset.mem_univ _, ?_, ?_⟩
    · exact Nat.le_add_right _ _
    · show b * P + k.val < _
      omega
  · intro k _ k' _ hkk
    have := congrArg Fin.val hkk
    exact Fin.ext (Nat.add_left_cancel this)
  · intro k hk'
    have hm := (Finset.mem_filter.1 hk').2
    refine ⟨⟨k.val - b * P, by omega⟩, Finset.mem_univ _, Fin.ext ?_⟩
    show b * P + (k.val - b * P) = k.val
    omega
  · intro k _
    rfl

theorem row_bound (b : Fin 10) (k : Fin 10000) : b.val * 10000 + k.val < n := by
  have h1 := b.isLt
  have h2 := k.isLt
  show _ < 100000
  omega

theorem row_end (b : Fin 10) : (b.val + 1) * 10000 ≤ n := by
  have h1 := b.isLt
  show _ ≤ 100000
  omega

/-- A bin's row sum is the sum between its ends in the sorted order. -/
theorem binSums_eq (x : IVec S800x128 32) (v : FVec Ideal S100000 .f32) (f : Fin n → ℝ) (hv : ∀ i, v (lab i) = ((f i : ℝ) : EReal)) (b : Fin 10) :
    binSums x v (ix1 b)
      = ((prefixSum (perm x) f ((b.val + 1) * 10000) - prefixSum (perm x) f (b.val * 10000) : ℝ) : EReal) := by
  rw [prefixSum_sub _ _ _ _ (by omega), ← sum_row b.val (row_end b) (fun k => f (perm x k)) (row_bound b), ← coe_sum]
  unfold binSums
  pointwise
  refine Finset.sum_congr rfl fun k _ => ?_
  refine (congrArg _ ?_).trans ((taken x v ⟨b.val * 10000 + k.val, row_bound b k⟩).trans (hv _))
  exact (Shape.Idx.eq_ofFin _).trans rfl

/-- The reference's result, from the samples' confidences and hits. -/
def outcome (x : IVec S800x128 32) (y : IVec S100000 32) : FVec Ideal S_ .f32 :=
  Host.powf (Host.reduceAdd (mulf (Host.divf (broadcastInDim S10 ![] bcast_S_S10 (constant S_ .f32 0x3F800000#32))
      (broadcastInDim S10 ![] bcast_S_S10 (constant S_ .f32 0x41200000#32)))
    (Host.powf (Host.absf (subf
      (Host.divf (binSums x (confs x)) (broadcastInDim S10 ![] bcast_S_S10 (constant S_ .f32 0x461C4000#32)))
      (Host.divf (binSums x (rights x y)) (broadcastInDim S10 ![] bcast_S_S10 (constant S_ .f32 0x461C4000#32)))))
      (broadcastInDim S10 ![] bcast_S_S10 (constant S_ .f32 0x3F800000#32))))
    (constant S_ .f32 0x00000000#32) reducesTo_S10_S_d0 h_S_) (constant S_ .f32 0x3F800000#32)

theorem const_one : Ideal.ofBits .f32 0x3F800000#32 = ((1 : ℝ) : EReal) := by
  rw [ofBits_eq _ (by decide)]; norm_num [real, TotalOrder.sig, TotalOrder.ulp]
theorem const_ten : Ideal.ofBits .f32 0x41200000#32 = ((10 : ℝ) : EReal) := by
  rw [ofBits_eq _ (by decide)]; norm_num [real, TotalOrder.sig, TotalOrder.ulp]

/-- The first power. -/
theorem pow_first (r : ℝ) : Ideal.pow (r : EReal) ((1 : ℝ) : EReal) = (r : EReal) :=
  congrArg Real.toEReal (Real.rpow_one r)

theorem div_reals (a b : ℝ) (h : b ≠ 0) : Ideal.div (a : EReal) (b : EReal) = ((a / b : ℝ) : EReal) := by
  rw [Ideal.div_coe h, ← EReal.coe_mul, mul_one_div]

/-- The reference's number: a tenth of the bins' mean gaps, which is the gaps' sum over the number of samples. -/
theorem outcome_eq {x : IVec S800x128 32} (hx : Packed x) (y : IVec S100000 32) (j : S_.Idx) :
    outcome x y j = (((∑ b, binGap (perm x) (confid x) (hit x y) b) / 100000 : ℝ) : EReal) := by
  unfold outcome
  pointwise
  have hg (b : Fin 10) : Ideal.div 1 (Ideal.ofBits .f32 0x41200000#32) * Ideal.pow (FloatOps.absf (F := Ideal) (φ := .f32)
      (Ideal.div (binSums x (confs x) (ix1 b)) (Ideal.ofBits .f32 0x461C4000#32)
        - Ideal.div (binSums x (rights x y) (ix1 b)) (Ideal.ofBits .f32 0x461C4000#32))) 1
      = ((binGap (perm x) (confid x) (hit x y) b / 100000 : ℝ) : EReal) := by
    rw [binSums_eq x _ (confid x) (confs_lab hx), binSums_eq x _ (hit x y) (rights_lab x y), const_ten, const_1,
      div_reals _ _ (by norm_num), div_reals _ _ (by norm_num), ← EReal.coe_sub, ← EReal.coe_one, div_reals _ _ (by norm_num)]
    refine (congrArg (fun r => ((1 / 10 : ℝ) : EReal) * Ideal.pow r ((1 : ℝ) : EReal)) (abs_coe _)).trans ?_
    rw [pow_first, ← EReal.coe_mul, ← sub_div, abs_div]
    refine congrArg Real.toEReal ?_
    unfold binGap
    rw [show |((10000 : ℕ) : ℝ)| = 10000 by norm_num]
    ring
  rw [Finset.sum_congr rfl fun b _ => hg b, coe_sum, ← EReal.coe_one, pow_first, Finset.sum_div]

end Cert.ReferenceIdeal.Sorted

end
-- ==== Proof.Given.lean ====
/- The precondition, read: its first result says that the words are packed as the first call packs them, its second that no
   bin boundary cuts samples of one confidence unevenly. -/
module

public import proofs.«01_k».proof.Proof.Sorted
public import proofs.«01_k».proof.Pre_packed_and_even
public import Idealize.ShloMosaic.Lib.ReduceAll

@[expose] public section

set_option maxRecDepth 16384

noncomputable section

namespace Cert.Pre_packed_and_even.Given

open Cert.Pre_packed_and_even Cert.Words Cert.Search Cert.Sorting Cert.KernelIdeal.Sel
open Idealize.ShloMosaic

/-! ## The shape relations -/

theorem shapeCasts_S800x128_S102400 : S800x128.ShapeCasts S102400 := by decide
theorem bcast_S_S102400 : S_.BroadcastsInDim S102400 (![] : Fin 0 → Fin S102400.rank) := by decide
theorem slices_S102400_S100000_0 : S102400.Slices ![0] S100000 := by decide
theorem bcast_S_S100000 : S_.BroadcastsInDim S100000 (![] : Fin 0 → Fin S100000.rank) := by decide
theorem slicesBy_S100000_S9_10000s10000 : S100000.SlicesBy (![10000] : Fin 1 → Nat) ![10000] S9 := by decide
theorem slicesBy_S100000_S9_9999s10000 : S100000.SlicesBy (![9999] : Fin 1 → Nat) ![10000] S9 := by decide
theorem bcast_S100000_S1x100000_1 : S100000.BroadcastsInDim S1x100000 (![1] : Fin 1 → Fin S1x100000.rank) := by decide
theorem bcast_S9_S9x1_0 : S9.BroadcastsInDim S9x1 (![0] : Fin 1 → Fin S9x1.rank) := by decide
theorem bcast_S1x100000_S9x100000_0_1 : S1x100000.BroadcastsInDim S9x100000 (![0, 1] : Fin 2 → Fin S9x100000.rank) := by decide
theorem bcast_S9x1_S9x100000_0_1 : S9x1.BroadcastsInDim S9x100000 (![0, 1] : Fin 2 → Fin S9x100000.rank) := by decide
theorem reducesTo_S9x100000_S9_d1 : S9x100000.ReducesTo [1] S9 := by decide
theorem h_S_ : 0 < S_.numel := by decide

instance facts : Facts where
  shapeCasts_S800x128_S102400 := shapeCasts_S800x128_S102400
  bcast_S_S102400 := bcast_S_S102400
  slices_S102400_S100000_0 := slices_S102400_S100000_0
  bcast_S_S100000 := bcast_S_S100000
  slicesBy_S100000_S9_10000s10000 := slicesBy_S100000_S9_10000s10000
  slicesBy_S100000_S9_9999s10000 := slicesBy_S100000_S9_9999s10000
  bcast_S100000_S1x100000_1 := bcast_S100000_S1x100000_1
  bcast_S9_S9x1_0 := bcast_S9_S9x1_0
  bcast_S1x100000_S9x100000_0_1 := bcast_S1x100000_S9x100000_0_1
  bcast_S9x1_S9x100000_0_1 := bcast_S9x1_S9x100000_0_1
  reducesTo_S9x100000_S9_d1 := reducesTo_S9x100000_S9_d1
  h_S_ := h_S_

/-! ## The terms of the precondition -/

/-- Whether each word is what its position takes. -/
def words (x : IVec S800x128 32) : IVec S102400 1 :=
  select (cmpi .slt (iotaInDim S102400 32 0) (broadcastInDim S102400 ![] bcast_S_S102400 (constantI S_ 32 100000#32)))
    (andi (cmpi .sge (shapeCast S102400 x shapeCasts_S800x128_S102400) (broadcastInDim S102400 ![] bcast_S_S102400 (constantI S_ 32 939524096#32)))
      (cmpi .slt (shapeCast S102400 x shapeCasts_S800x128_S102400) (broadcastInDim S102400 ![] bcast_S_S102400 (constantI S_ 32 1073741824#32))))
    (cmpi .eq (shapeCast S102400 x shapeCasts_S800x128_S102400) (broadcastInDim S102400 ![] bcast_S_S102400 (constantI S_ 32 2147482624#32)))

/-- The samples' keys, in a row, -/
def keyRow (x : IVec S800x128 32) : IVec S100000 32 :=
  andi (Cert.ReferenceIdeal.Sorted.samples x) (broadcastInDim S100000 ![] bcast_S_S100000 (constantI S_ 32 4294966272#32))
/-- sorted, -/
def keySorted (x : IVec S800x128 32) : IVec S100000 32 := Host.sort S100000 0 comparator_i32_d0 (keyRow x)
/-- at the first sample of each bin but the first bin, -/
def firsts (x : IVec S800x128 32) : IVec S9 32 := Host.slice S9 ![10000] ![10000] (keySorted x) slicesBy_S100000_S9_10000s10000
/-- and at the last sample of each bin but the last. -/
def lasts (x : IVec S800x128 32) : IVec S9 32 := Host.slice S9 ![9999] ![10000] (keySorted x) slicesBy_S100000_S9_9999s10000

/-- Per sample, whether its prediction is its label. -/
def rightRow (x : IVec S800x128 32) (y : IVec S100000 32) : IVec S100000 1 :=
  cmpi .eq (andi (Cert.ReferenceIdeal.Sorted.samples x) (broadcastInDim S100000 ![] bcast_S_S100000 (constantI S_ 32 1023#32))) y

/-- Per boundary and sample, whether the sample's key is the boundary's. -/
def tiedAt (x : IVec S800x128 32) : IVec S9x100000 1 :=
  cmpi .eq
    (broadcastInDim S9x100000 ![0, 1] bcast_S1x100000_S9x100000_0_1 (broadcastInDim S1x100000 ![1] bcast_S100000_S1x100000_1 (keyRow x)))
    (broadcastInDim S9x100000 ![0, 1] bcast_S9x1_S9x100000_0_1 (broadcastInDim S9x1 ![0] bcast_S9_S9x1_0 (firsts x)))

/-- Per boundary and sample: tied only if right, -/
def tiedRight (x : IVec S800x128 32) (y : IVec S100000 32) : IVec S9x100000 1 :=
  ori (noti (tiedAt x))
    (broadcastInDim S9x100000 ![0, 1] bcast_S1x100000_S9x100000_0_1 (broadcastInDim S1x100000 ![1] bcast_S100000_S1x100000_1 (rightRow x y)))
/-- tied only if wrong. -/
def tiedWrong (x : IVec S800x128 32) (y : IVec S100000 32) : IVec S9x100000 1 :=
  ori (noti (tiedAt x))
    (broadcastInDim S9x100000 ![0, 1] bcast_S1x100000_S9x100000_0_1 (noti (broadcastInDim S1x100000 ![1] bcast_S100000_S1x100000_1 (rightRow x y))))

/-- Per boundary, whether it is even. -/
def evens (x : IVec S800x128 32) (y : IVec S100000 32) : IVec S9 1 :=
  ori (ori (cmpi .slt (lasts x) (firsts x)) (Host.reduce IntOp.andi (tiedRight x y) (constantI S_ 1 1#1) reducesTo_S9x100000_S9_d1 h_S_))
    (Host.reduce IntOp.andi (tiedWrong x y) (constantI S_ 1 1#1) reducesTo_S9x100000_S9_d1 h_S_)

theorem fn_eq (x : IVec S800x128 32) (y : IVec S100000 32) : fn (F := Ideal) x y = (words x, evens x y) := rfl

/-! ## Packed -/

/-- The words' place in the row of all. -/
theorem row_at (x : IVec S800x128 32) (j : S800x128.Idx) (k : Fin 102400) (hk : k.val = (j 0).val * 128 + (j 1).val) :
    shapeCast S102400 x shapeCasts_S800x128_S102400 (Shape.Idx.ofFin k) = x j := by
  refine shapeCast_apply _ _ _ j ?_
  rw [Shape.rowMajor_val_one, Shape.rowMajor_val_two]
  exact hk.symm

theorem words_at (x : IVec S800x128 32) (j : S800x128.Idx) (k : Fin 102400) (hk : k.val = (j 0).val * 128 + (j 1).val) :
    words x (Shape.Idx.ofFin k)
      = Scalar.select (IntOp.cmpi .slt (BitVec.ofNat 32 k.val) 100000#32)
          (IntOp.andi (IntOp.cmpi .sge (x j) 939524096#32) (IntOp.cmpi .slt (x j) 1073741824#32)) (IntOp.cmpi .eq (x j) 2147482624#32) := by
  rw [← row_at x j k hk]
  rfl

theorem range_bits (w : BitVec 32) (h : IntOp.andi (IntOp.cmpi .sge w 939524096#32) (IntOp.cmpi .slt w 1073741824#32) = 1#1) :
    0x38000000 ≤ w.toNat ∧ w.toNat < 0x40000000 := by
  obtain ⟨h1, h2⟩ := IntOp.andi_eq_one.1 h
  have e1 : IntOp.cmpi .sge w 939524096#32 = BitVec.ofBool ((939524096#32).sle w) := rfl
  have e2 : IntOp.cmpi .slt w 1073741824#32 = BitVec.ofBool (w.slt 1073741824#32) := rfl
  rw [e1] at h1
  rw [e2] at h2
  have c1 : (939524096#32).sle w = true := by
    cases hc : (939524096#32).sle w
    · rw [hc] at h1; exact absurd h1 (by decide)
    · rfl
  have c2 : w.slt 1073741824#32 = true := by
    cases hc : w.slt 1073741824#32
    · rw [hc] at h2; exact absurd h2 (by decide)
    · rfl
  rw [BitVec.sle_eq_decide, decide_eq_true_eq] at c1
  rw [BitVec.slt_eq_decide, decide_eq_true_eq] at c2
  have d1 : (939524096#32).toInt = 939524096 := by decide
  have d2 : (1073741824#32).toInt = 1073741824 := by decide
  have hw := w.isLt
  rw [d1] at c1
  rw [d2] at c2
  rw [BitVec.toInt_eq_toNat_cond] at c1 c2
  split at c1 <;> omega

theorem packed {x : IVec S800x128 32} {y : IVec S100000 32} (h : (fn (F := Ideal) x y).1 = fun _ => 1#1) : Packed x := by
  rw [fn_eq] at h
  have hw (j : S800x128.Idx) (k : Fin 102400) (hk : k.val = (j 0).val * 128 + (j 1).val) := (words_at x j k hk).symm.trans (congrFun h _)
  have hk (k : Fin 102400) : (BitVec.ofNat 32 k.val).toNat = k.val := by
    have := k.isLt
    rw [BitVec.toNat_ofNat]; omega
  have hc (k : Fin 102400) : IntOp.cmpi .slt (BitVec.ofNat 32 k.val) 100000#32 = 1#1 ↔ k.val < 100000 := by
    have := k.isLt
    rw [slt_iff _ _ (by rw [hk]; omega) (by decide), hk]
    exact Iff.rfl
  have hs (i : Fin n) : 0x38000000 ≤ (x (pos i)).toNat ∧ (x (pos i)).toNat < 0x40000000 := by
    have hi : i.val < 100000 := i.isLt
    have e := hw (pos i) ⟨i.val, by omega⟩ (by rw [pos_zero, pos_one]; dsimp only; omega)
    rw [(hc ⟨i.val, by omega⟩).2 hi] at e
    exact range_bits _ e
  refine ⟨fun i => (hs i).1, fun i => (hs i).2, fun j hj => ?_⟩
  have hp := pad_index j hj
  have h0 : (j 0).val < 800 := (j 0).isLt
  have h1 : (j 1).val < 128 := (j 1).isLt
  have e := hw j ⟨(j 0).val * 128 + (j 1).val, by omega⟩ rfl
  rw [bit_eq_zero (mt (hc ⟨(j 0).val * 128 + (j 1).val, by omega⟩).1 (by dsimp only; omega))] at e
  exact (eq_iff _ _).1 e

/-! ## Even -/

theorem keyRow_lab (x : IVec S800x128 32) (i : Fin n) : (keyRow x (lab i)).toNat = key x i := by
  show (Cert.ReferenceIdeal.Sorted.samples x (lab i) &&& 4294966272#32).toNat = key x i
  rw [Cert.ReferenceIdeal.Sorted.samples_lab]
  exact toNat_key _

theorem rightRow_lab (x : IVec S800x128 32) (y : IVec S100000 32) (i : Fin n) : rightRow x y (lab i) = 1#1 ↔ x (pos i) &&& 1023#32 = y (lab i) := by
  refine (eq_iff (Cert.ReferenceIdeal.Sorted.samples x (lab i) &&& 1023#32) (y (lab i))).trans ?_
  rw [Cert.ReferenceIdeal.Sorted.samples_lab]

/-- Whether the sort puts sample `k` before sample `k'`. -/
def before (x : IVec S800x128 32) (k k' : Fin n) : Bool := comparator_i32_d0 (keyRow x (lab k)) (keyRow x (lab k')) == 1#1

variable {x : IVec S800x128 32} {y : IVec S100000 32}

theorem before_eq (hx : Packed x) (k k' : Fin n) : before x k k' = true ↔ key x k < key x k' := by
  have h := key_high hx k
  have h' := key_high hx k'
  unfold before
  rw [beq_iff_eq]
  refine (slt_iff _ _ (by rw [keyRow_lab]; omega) (by rw [keyRow_lab]; omega)).trans ?_
  rw [keyRow_lab, keyRow_lab]

theorem keySorted_lab (x : IVec S800x128 32) (k : Fin n) : keySorted x (lab k) = keyRow x (lab (sortPerm (before x) k)) :=
  sort_at comparator_i32_d0 (keyRow x) k

theorem first_bound (b : Fin 9) : (b.val + 1) * 10000 < n := by
  have := b.isLt
  show _ < 100000
  omega
theorem last_bound (b : Fin 9) : (b.val + 1) * 10000 - 1 < n := by
  have := b.isLt
  show _ < 100000
  omega

theorem firsts_at (x : IVec S800x128 32) (b : Fin 9) : firsts x (ix1 b) = keySorted x (lab ⟨(b.val + 1) * 10000, first_bound b⟩) := by
  unfold firsts
  rw [Host.slice_apply]
  refine congrArg _ ((Shape.Idx.eq_ofFin _).trans (congrArg Shape.Idx.ofFin (Fin.ext ?_)))
  show 10000 + 10000 * b.val = (b.val + 1) * 10000
  omega
theorem lasts_at (x : IVec S800x128 32) (b : Fin 9) : lasts x (ix1 b) = keySorted x (lab ⟨(b.val + 1) * 10000 - 1, last_bound b⟩) := by
  unfold lasts
  rw [Host.slice_apply]
  refine congrArg _ ((Shape.Idx.eq_ofFin _).trans (congrArg Shape.Idx.ofFin (Fin.ext ?_)))
  show 9999 + 10000 * b.val = (b.val + 1) * 10000 - 1
  omega

theorem lab_eq (i : Fin n) : (ix1 i : S100000.Idx) = lab i := (Shape.Idx.eq_ofFin _).trans rfl

theorem tiedAt_at (x : IVec S800x128 32) (b : Fin 9) (i : Fin n) : tiedAt x (ix2 b i) = IntOp.cmpi .eq (keyRow x (lab i)) (firsts x (ix1 b)) := by
  unfold tiedAt
  pointwise
  rw [lab_eq]

theorem tiedRight_at (x : IVec S800x128 32) (y : IVec S100000 32) (b : Fin 9) (i : Fin n) :
    tiedRight x y (ix2 b i) = IntOp.ori (~~~(tiedAt x (ix2 b i))) (rightRow x y (lab i)) := by
  unfold tiedRight
  pointwise
  rw [lab_eq]

theorem tiedWrong_at (x : IVec S800x128 32) (y : IVec S100000 32) (b : Fin 9) (i : Fin n) :
    tiedWrong x y (ix2 b i) = IntOp.ori (~~~(tiedAt x (ix2 b i))) (~~~(rightRow x y (lab i))) := by
  unfold tiedWrong
  pointwise
  rw [lab_eq]

theorem drop_at (b : Fin 9) (i : Fin n) : reducesTo_S9x100000_S9_d1.drop (ix2 b i) = ix1 b := by
  funext a
  have : a = 0 := Subsingleton.elim _ _
  subst this
  rfl

theorem implied (p q : BitVec 1) (h : IntOp.ori (~~~p) q = 1#1) (hp : p = 1#1) : q = 1#1 := by
  revert h hp; revert p q; decide
theorem implied_not (p q : BitVec 1) (h : IntOp.ori (~~~p) (~~~q) = 1#1) (hp : p = 1#1) :
    ¬ q = 1#1 := by
  revert h hp; revert p q; decide

/-- Every boundary between two bins is even. -/
theorem even (hx : Packed x) (h : (fn (F := Ideal) x y).2 = fun _ => 1#1) (b : Fin 9) : EvenAt x y ((b.val + 1) * 10000) := by
  rw [fn_eq] at h
  have hb : evens x y (ix1 b) = 1#1 := congrFun h _
  intro t h₁ h₂
  have hs := sortPerm_sorts (key x) (before x) (before_eq hx)
  have hfirst : (firsts x (ix1 b)).toNat = t := by
    rw [firsts_at, keySorted_lab, keyRow_lab]
    exact sorted_at (key x) (sortPerm (before x)) hs t _ h₁ h₂
  have htied (i : Fin n) (hi : key x i = t) : tiedAt x (ix2 b i) = 1#1 := by
    rw [tiedAt_at]
    refine (eq_iff _ _).2 (BitVec.eq_of_toNat_eq ?_)
    rw [keyRow_lab, hfirst, hi]
  rcases IntOp.ori_eq_one.1 hb with h' | hw
  · rcases IntOp.ori_eq_one.1 h' with hl | hr
    · left
      have hkey (k : Fin n) : (keySorted x (lab k)).toNat = key x (sortPerm (before x) k) := by rw [keySorted_lab, keyRow_lab]
      have hlt : key x (sortPerm (before x) ⟨(b.val + 1) * 10000 - 1, last_bound b⟩) < t := by
        have hl' : IntOp.cmpi .slt (lasts x (ix1 b)) (firsts x (ix1 b)) = 1#1 := hl
        have g1 : (lasts x (ix1 b)).toNat = key x (sortPerm (before x) ⟨(b.val + 1) * 10000 - 1, last_bound b⟩) := by rw [lasts_at, hkey]
        have g2 : (firsts x (ix1 b)).toNat < 2 ^ 31 := by
          rw [firsts_at, hkey]
          exact (key_high hx _).trans (by norm_num)
        have g3 := key_high hx (sortPerm (before x) ⟨(b.val + 1) * 10000 - 1, last_bound b⟩)
        rw [slt_iff _ _ (by rw [g1]; exact g3.trans (by norm_num)) g2, g1, hfirst] at hl'
        exact hl'
      have hm := (lt_iff_of_monotone (key x ∘ sortPerm (before x)) hs t ⟨(b.val + 1) * 10000 - 1, last_bound b⟩).1 hlt
      rw [cntLt_comp] at hm
      dsimp only at hm
      omega
    · refine Or.inr ⟨1, fun i hi => ?_⟩
      have e := Host.reduce_andi_eq_one _ _ _ _ _ hr (ix2 b i) (drop_at b i)
      rw [tiedRight_at] at e
      exact if_pos ((rightRow_lab x y i).1 (implied _ _ e (htied i hi)))
  · refine Or.inr ⟨0, fun i hi => ?_⟩
    have e := Host.reduce_andi_eq_one _ _ _ _ _ hw (ix2 b i) (drop_at b i)
    rw [tiedWrong_at] at e
    exact if_neg (mt (rightRow_lab x y i).2 (implied_not _ _ e (htied i hi)))

end Cert.Pre_packed_and_even.Given

end
-- ==== Proof.lean ====
module

public import proofs.«01_k».proof.Defs
public import proofs.«01_k».proof.Proof.Run
public import proofs.«01_k».proof.Proof.Run2
public import proofs.«01_k».proof.Proof.Rows
public import proofs.«01_k».proof.Proof.Reference2
public import proofs.«01_k».proof.Proof.Softmax
public import proofs.«01_k».proof.Proof.RunIdeal
public import proofs.«01_k».proof.Proof.Gen.ReferenceIdeal.Run
public import proofs.«01_k».proof.Proof.Bins
public import proofs.«01_k».proof.Proof.Given
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.Sel

/-- The kernel's run at the ideal values: its result is the word of its arguments, and the arguments end as they began. -/
theorem kernel_value (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4)
        = (fun _ => outWord (F := Ideal) (m ((c.tc : Thread Cert.KernelIdeal.nD Cert.KernelIdeal.τ).loc Cert.KernelIdeal.main_arg0))
            (padded (m ((c.tc : Thread Cert.KernelIdeal.nD Cert.KernelIdeal.τ).loc Cert.KernelIdeal.main_arg1))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun _ h c => ⟨((h.1.1 c).2 Cert.KernelIdeal.main_v4 (by decide)).trans (result m c), h.2.1 c⟩)
    (θ_run_and (run m g) (frame m g))

/-- The reference's run: its result is the number of its arguments, and the arguments end as they began. -/
theorem reference_value (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v41)
        = Cert.ReferenceIdeal.Sorted.outcome (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1, (h c).2⟩) (Cert.ReferenceIdeal.Value.run (F := Ideal) m g)

theorem quiescent_Kernel : Cert.quiescent_Kernel := fun m g _ => Cert.Kernel.Sel.frame m g

theorem quiescent_KernelIdeal : Cert.quiescent_KernelIdeal := fun m g _ => Cert.KernelIdeal.Sel.frame m g

theorem quiescent_KernelIdeal_pre : Cert.quiescent_KernelIdeal_pre_packed_and_even := fun m g _ => Cert.KernelIdeal.Sel.frame m g

theorem quiescent_ReferenceIdeal : Cert.quiescent_ReferenceIdeal := fun m g _ =>
  (θ_run _ _ _).mono (fun r h => ⟨fun c => (h c).2, sem_eq_zero_of_no_sems rfl r.2⟩) (reference_value m g)

theorem quiescent_ReferenceIdeal_pre : Cert.quiescent_ReferenceIdeal_pre_packed_and_even := fun m g _ => quiescent_ReferenceIdeal m g trivial

/-- For packed words and even boundaries the kernel's word is the reference's number: both are the sum over the bins of the
    gap between the sums of confidences and of hits in the reference's order, over the number of samples. -/
theorem algebraic : Cert.algebraic_KernelIdeal_ReferenceIdeal_pre_packed_and_even := by
  intro m g m' g' hpre hargs
  refine ⟨fun c _ => outWord (F := Ideal) (m ((c.tc : Thread Cert.KernelIdeal.nD Cert.KernelIdeal.τ).loc Cert.KernelIdeal.main_arg0))
    (padded (m ((c.tc : Thread Cert.KernelIdeal.nD Cert.KernelIdeal.τ).loc Cert.KernelIdeal.main_arg1))), kernel_value m g, ?_⟩
  refine (θ_run _ _ _).mono (fun r h c => ⟨(h c).1.trans ?_, (h c).2⟩) (reference_value m' g')
  rw [(hargs c).1, (hargs c).2]
  have hx := Cert.Pre_packed_and_even.Given.packed (hpre c).1
  funext j
  exact (Cert.ReferenceIdeal.Sorted.outcome_eq hx _ j).trans (outWord_eq hx _ _ (Cert.ReferenceIdeal.Sorted.perm_sorts hx)
    fun b => Cert.Pre_packed_and_even.Given.even hx (hpre c).2 b).symm

/-! ## The first call -/

theorem quiescent_Kernel2 : Cert.quiescent_Kernel2 := fun m g _ => Cert.Kernel2.Rows.frame m g

theorem quiescent_Kernel2Ideal : Cert.quiescent_Kernel2Ideal := fun m g _ => Cert.Kernel2Ideal.Rows.frame m g

theorem quiescent_Kernel2Ideal_pre : Cert.quiescent_Kernel2Ideal_pre_below_infinity := fun m g _ => Cert.Kernel2Ideal.Rows.frame m g

theorem quiescent_Reference2Ideal : Cert.quiescent_Reference2Ideal := fun m g _ =>
  (θ_run _ _ _).mono (fun r h => ⟨fun c => (h c).2.2, sem_eq_zero_of_no_sems rfl r.2⟩) (Cert.Reference2Ideal.Value.run (F := Ideal) m g)

theorem quiescent_Reference2Ideal_pre : Cert.quiescent_Reference2Ideal_pre_below_infinity := fun m g _ => quiescent_Reference2Ideal m g trivial

/-- The first call's run at the ideal values: each entry of its two results is its sample's confidence and prediction, the
    entries past the samples the padding, and the argument ends as it began. -/
theorem kernel2_value (m : (ℓ : Loc Cert.Kernel2Ideal.nD Cert.Kernel2Ideal.τ Cert.Kernel2Ideal.sig) → Buf (Elt Ideal) ℓ)
    (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v4_0)
        = (fun j => Cert.Kernel2Ideal.Rows.confAll (m ((c.tc : Thread Cert.Kernel2Ideal.nD Cert.Kernel2Ideal.τ).loc Cert.Kernel2Ideal.main_arg0)) (j 0) (j 1))
      ∧ r.2.mem ((c.tc : Thread Cert.Kernel2Ideal.nD Cert.Kernel2Ideal.τ).loc Cert.Kernel2Ideal.main_v4_1)
        = (fun j => Cert.Kernel2Ideal.Rows.predAll (m ((c.tc : Thread Cert.Kernel2Ideal.nD Cert.Kernel2Ideal.τ).loc Cert.Kernel2Ideal.main_arg0)) (j 0) (j 1))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)) :=
  (θ_run _ _ _).mono (fun _ h c => ⟨((h.1.1 c).1 2).trans (Cert.Kernel2Ideal.Rows.final_conf m c),
      ((h.1.1 c).1 3).trans (Cert.Kernel2Ideal.Rows.final_pred m c), h.2.1 c⟩)
    (θ_run_and (Cert.Kernel2Ideal.Rows.run m g) (Cert.Kernel2Ideal.Rows.frame m g))

/-- For logits below ∞ the first call's confidences and predictions are the reference's: the greatest softmax of each row and the
    first class where it is reached. -/
theorem algebraic2 : Cert.algebraic_Kernel2Ideal_Reference2Ideal_pre_below_infinity := by
  intro m g m' g' hpre hargs
  refine ⟨fun c j => Cert.Kernel2Ideal.Rows.confAll (m ((c.tc : Thread Cert.Kernel2Ideal.nD Cert.Kernel2Ideal.τ).loc Cert.Kernel2Ideal.main_arg0)) (j 0) (j 1),
    fun c j => Cert.Kernel2Ideal.Rows.predAll (m ((c.tc : Thread Cert.Kernel2Ideal.nD Cert.Kernel2Ideal.τ).loc Cert.Kernel2Ideal.main_arg0)) (j 0) (j 1), kernel2_value m g, ?_⟩
  refine (θ_run _ _ _).mono (fun r h c => ⟨(h c).1.trans ?_, (h c).2.1.trans ?_, (h c).2.2⟩) (Cert.Reference2Ideal.Value.run (F := Ideal) m' g')
  · rw [hargs c]
    exact Cert.Softmax.confs_agree _ (hpre c)
  · rw [hargs c]
    exact Cert.Softmax.preds_agree _ (hpre c)

/-- The certificate's claim. -/
theorem claim : Cert.Claim :=
  ⟨_, _, _, _, _, _, Cert.Pre_packed_and_even.Given.facts, Cert.Softmax.facts, quiescent_Kernel, quiescent_KernelIdeal,
    quiescent_KernelIdeal_pre, quiescent_ReferenceIdeal, quiescent_ReferenceIdeal_pre, quiescent_Kernel2, quiescent_Kernel2Ideal,
    quiescent_Kernel2Ideal_pre, quiescent_Reference2Ideal, quiescent_Reference2Ideal_pre, trivial, algebraic, trivial, algebraic2⟩

end Cert.Proof

end
